-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 1024]⟩ ⟨2, ![64, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S16x1024 : Shape := ⟨2, ![16, 1024]⟩
abbrev S2x3x64x1024 : Shape := ⟨4, ![2, 3, 64, 1024]⟩
abbrev S3x16x1024 : Shape := ⟨3, ![3, 16, 1024]⟩
abbrev S2x1024x2048 : Shape := ⟨3, ![2, 1024, 2048]⟩
abbrev S2x2048x1024 : Shape := ⟨3, ![2, 2048, 1024]⟩
abbrev S3x2x3 : Shape := ⟨3, ![3, 2, 3]⟩
abbrev S2x4 : Shape := ⟨2, ![2, 4]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S1x512x1024 : Shape := ⟨3, ![1, 512, 1024]⟩
abbrev S512x1024 : Shape := ⟨2, ![512, 1024]⟩
abbrev S64x256 : Shape := ⟨2, ![64, 256]⟩
abbrev S64x2048 : Shape := ⟨2, ![64, 2048]⟩
abbrev S1x2048x1024 : Shape := ⟨3, ![1, 2048, 1024]⟩
abbrev S2048x512 : Shape := ⟨2, ![2048, 512]⟩
abbrev S64x512 : Shape := ⟨2, ![64, 512]⟩
abbrev S1x1x1 : Shape := ⟨3, ![1, 1, 1]⟩
abbrev S1x1x64x512 : Shape := ⟨4, ![1, 1, 64, 512]⟩
abbrev S1x1024x2048 : Shape := ⟨3, ![1, 1024, 2048]⟩
abbrev S1x16x512 : Shape := ⟨3, ![1, 16, 512]⟩
abbrev S16x512 : Shape := ⟨2, ![16, 512]⟩
abbrev S1x16x1024 : Shape := ⟨3, ![1, 16, 1024]⟩

abbrev nBuf : Space → Nat
  | .hbm => 8
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S16x1024, .f32⟩
  | .local _ .vmem, ⟨0, _⟩ => ⟨S64x1024, .f32⟩
  | .local _ .vmem, ⟨1, _⟩ => ⟨S16x1024, .f32⟩
  | .local _ .vmem, ⟨2, _⟩ => ⟨S64x1024, .bf16⟩
  | .local _ .vmem, ⟨3, _⟩ => ⟨S2x3x64x1024, .bf16⟩
  | .local _ .vmem, ⟨4, _⟩ => ⟨S3x16x1024, .bf16⟩
  | .local _ .vmem, ⟨5, _⟩ => ⟨S2x1024x2048, .f32⟩
  | .local _ .vmem, ⟨6, _⟩ => ⟨S2x2048x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_56 : BitVec 32 := 1#32
  let v51 : BitVec 32 := Scalar.muli v5 c1_i32_56
  let v52 : BitVec 32 := Scalar.addi c0_i32_57 v51
  v52.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_59 : BitVec 32 := 1#32
  let v53 : BitVec 32 := Scalar.muli v7 c1_i32_59
  let v54 : BitVec 32 := Scalar.addi c0_i32_60 v53
  v54.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_62 : BitVec 32 := 1#32
  let v55 : BitVec 32 := Scalar.muli v9 c1_i32_62
  let v56 : BitVec 32 := Scalar.addi c0_i32_63 v55
  v56.toNat
def k0_dev4 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_205 : BitVec 32 := 1#32
  let v175 : BitVec 32 := Scalar.muli v5 c1_i32_205
  let v176 : BitVec 32 := Scalar.addi c0_i32_206 v175
  v176.toNat
def k0_dev5 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_219 : BitVec 32 := 1#32
  let v184 : BitVec 32 := Scalar.muli v7 c1_i32_219
  let v185 : BitVec 32 := Scalar.addi c0_i32_220 v184
  v185.toNat
def k0_dev6 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_233 : BitVec 32 := 1#32
  let v193 : BitVec 32 := Scalar.muli v9 c1_i32_233
  let v194 : BitVec 32 := Scalar.addi c0_i32_234 v193
  v194.toNat
def k0_dev7 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_250 : BitVec 32 := 1#32
  let v208 : BitVec 32 := Scalar.muli v5 c1_i32_250
  let v209 : BitVec 32 := Scalar.addi c0_i32_251 v208
  v209.toNat
def k0_dev8 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_264 : BitVec 32 := 1#32
  let v217 : BitVec 32 := Scalar.muli v7 c1_i32_264
  let v218 : BitVec 32 := Scalar.addi c0_i32_265 v217
  v218.toNat
def k0_dev9 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_278 : BitVec 32 := 1#32
  let v226 : BitVec 32 := Scalar.muli v9 c1_i32_278
  let v227 : BitVec 32 := Scalar.addi c0_i32_279 v226
  v227.toNat
def k0_dev10 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_599 : BitVec 32 := 1#32
  let v430 : BitVec 32 := Scalar.muli v5 c1_i32_599
  let v431 : BitVec 32 := Scalar.addi c0_i32_600 v430
  v431.toNat
def k0_dev11 (d0 : Dev nD) : Nat :=
  let c0_i32_614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_613 : BitVec 32 := 1#32
  let v439 : BitVec 32 := Scalar.muli v7 c1_i32_613
  let v440 : BitVec 32 := Scalar.addi c0_i32_614 v439
  v440.toNat
def k0_dev12 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_627 : BitVec 32 := 1#32
  let v448 : BitVec 32 := Scalar.muli v9 c1_i32_627
  let v449 : BitVec 32 := Scalar.addi c0_i32_628 v448
  v449.toNat
def k0_dev13 (d0 : Dev nD) : Nat :=
  let c0_i32_645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_644 : BitVec 32 := 1#32
  let v463 : BitVec 32 := Scalar.muli v5 c1_i32_644
  let v464 : BitVec 32 := Scalar.addi c0_i32_645 v463
  v464.toNat
def k0_dev14 (d0 : Dev nD) : Nat :=
  let c0_i32_659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_658 : BitVec 32 := 1#32
  let v472 : BitVec 32 := Scalar.muli v7 c1_i32_658
  let v473 : BitVec 32 := Scalar.addi c0_i32_659 v472
  v473.toNat
def k0_dev15 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_672 : BitVec 32 := 1#32
  let v481 : BitVec 32 := Scalar.muli v9 c1_i32_672
  let v482 : BitVec 32 := Scalar.addi c0_i32_673 v481
  v482.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c16_i32 : BitVec 32 := 16#32
  let v645 : BitVec 32 := Scalar.muli v5 c16_i32
  let c0_i32_942 : BitVec 32 := 0#32
  ![v645.toNat, 0]
def k0_dev16 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_938 : BitVec 32 := 1#32
  let v646 : BitVec 32 := Scalar.muli v5 c1_i32_938
  let v647 : BitVec 32 := Scalar.addi c0_i32_939 v646
  v647.toNat
def k0_off2 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c16_i32_943 : BitVec 32 := 16#32
  let v655 : BitVec 32 := Scalar.muli v7 c16_i32_943
  let c0_i32_955 : BitVec 32 := 0#32
  ![v655.toNat, 0]
def k0_dev17 (d0 : Dev nD) : Nat :=
  let c0_i32_952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_951 : BitVec 32 := 1#32
  let v656 : BitVec 32 := Scalar.muli v7 c1_i32_951
  let v657 : BitVec 32 := Scalar.addi c0_i32_952 v656
  v657.toNat
def k0_dev18 (d0 : Dev nD) : Nat :=
  let c0_i32_965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_964 : BitVec 32 := 1#32
  let v666 : BitVec 32 := Scalar.muli v9 c1_i32_964
  let v667 : BitVec 32 := Scalar.addi c0_i32_965 v666
  v667.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c16_i32_972 : BitVec 32 := 16#32
  let v681 : BitVec 32 := Scalar.muli v5 c16_i32_972
  let c512_i32_984 : BitVec 32 := 512#32
  ![v681.toNat, 512]
def k0_dev19 (d0 : Dev nD) : Nat :=
  let c0_i32_981 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_980 : BitVec 32 := 1#32
  let v682 : BitVec 32 := Scalar.muli v5 c1_i32_980
  let v683 : BitVec 32 := Scalar.addi c0_i32_981 v682
  v683.toNat
def k0_off4 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c16_i32_985 : BitVec 32 := 16#32
  let v691 : BitVec 32 := Scalar.muli v7 c16_i32_985
  let c512_i32_997 : BitVec 32 := 512#32
  ![v691.toNat, 512]
def k0_dev20 (d0 : Dev nD) : Nat :=
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_993 : BitVec 32 := 1#32
  let v692 : BitVec 32 := Scalar.muli v7 c1_i32_993
  let v693 : BitVec 32 := Scalar.addi c0_i32_994 v692
  v693.toNat
def k0_dev21 (d0 : Dev nD) : Nat :=
  let c0_i32_1007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_1006 : BitVec 32 := 1#32
  let v702 : BitVec 32 := Scalar.muli v9 c1_i32_1006
  let v703 : BitVec 32 := Scalar.addi c0_i32_1007 v702
  v703.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_1083 : BitVec 32 := 16#32
  let v753 : BitVec 32 := Scalar.muli v2 c16_i32_1083
  let v754 : Index := Scalar.indexCast v753
  let c0_1084 : Index := 0#32
  ![v754.toNat, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x8192 : Shape := ⟨2, ![1024, 8192]⟩
abbrev S8192x1024 : Shape := ⟨2, ![8192, 1024]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x8192, .f32⟩
  | .hbm, ⟨6, _⟩ => ⟨S8192x1024, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x1024, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x1024, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Vals.lean ====
/-
# The values of one run

What each buffer of each device holds once it has been written, as functions of the memory at launch, over any float
values: the weight buffers (every piece lands where the whole weight matrix would put it), the partial products, the
landing buffers (a slot holds the partial product of the device that writes it), the activations between the layers,
and the rows of the result. Every definition is what the kernel's loads read of the contents above it, so the run
itself needs no equation between values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.ViewIndex
public import Idealize.ShloMosaic.Lib.Tactic

@[expose] public section

noncomputable section

namespace Cert.KernelIdeal.Mlp

open Cert.KernelIdeal Cert.KernelIdeal.Gen
open Idealize.ShloMosaic Idealize.ShloMosaic.TcCoe Idealize.ShloMosaic.ValueIdx

variable {F : FTy → Type} [FloatOps F]

/-! ## The mesh: three partners -/

/-- Device `c`'s partner in direction `j`: the one before it, the one after it, the one opposite. -/
def pr (j : Fin 3) (c : Dev nD) : Dev nD := ⟨(c.val + ![3, 1, 2] j) % 4, Nat.mod_lt _ (by decide)⟩
/-- The direction back: the partner in direction `j` sees the device in direction `inv j`. -/
def inv (j : Fin 3) : Fin 3 := ![1, 0, 2] j

theorem inv_inv (j : Fin 3) : inv (inv j) = j := by revert j; decide
theorem pr_inv (j : Fin 3) (c : Dev nD) : pr (inv j) (pr j c) = c := by revert j c; decide
theorem pr_inv' (j : Fin 3) (c : Dev nD) : pr j (pr (inv j) c) = c := by revert j c; decide
theorem pr_val (j : Fin 3) (c : Dev nD) : (pr j c).val = (c.val + ![3, 1, 2] j) % 4 := rfl

/-! ## The buffers -/

abbrev xM : Memref sig .tc .vmem S64x1024 .f32 := Memref.whole cc0_stg0_0
abbrev oM : Memref sig .tc .vmem S16x1024 .f32 := Memref.whole cc0_stg1_0
abbrev partM : Memref sig .tc .vmem S64x1024 .bf16 := Memref.whole cc0_scratch0
abbrev commM : Memref sig .tc .vmem S2x3x64x1024 .bf16 := Memref.whole cc0_scratch1
abbrev rowsM : Memref sig .tc .vmem S3x16x1024 .bf16 := Memref.whole cc0_scratch2
abbrev winM : Memref sig .tc .vmem S2x1024x2048 .f32 := Memref.whole cc0_scratch3
abbrev woutM : Memref sig .tc .vmem S2x2048x1024 .f32 := Memref.whole cc0_scratch4

/-! ## The weights -/

variable (m : (ℓ : Loc nD τ sig) → Buf (Elt F) ℓ)

/-- Device `c`'s staged copy of `x`. -/
def xst (c : Dev nD) : Buf (Elt F) ((c : Thread nD τ).loc cc0_stg0_0) :=
  (win0_0.blk (0 : Fin 1)).view.read (Elt F) (m ((c : Thread nD τ).loc main_arg0))

/-- Device `c`'s block of layer `l`'s first weight matrix, -/
def win (l : Fin 3) (c : Dev nD) : S1024x2048.Idx → Elt F .f32 :=
  match l with
  | 0 => m ((c : Thread nD τ).loc main_arg1)
  | 1 => m ((c : Thread nD τ).loc main_arg3)
  | 2 => m ((c : Thread nD τ).loc main_arg5)

/-- and of its second. -/
def wout (l : Fin 3) (c : Dev nD) : S2048x1024.Idx → Elt F .f32 :=
  match l with
  | 0 => m ((c : Thread nD τ).loc main_arg2)
  | 1 => m ((c : Thread nD τ).loc main_arg4)
  | 2 => m ((c : Thread nD τ).loc main_arg6)

/-- The weight buffers once layer `l`'s pieces have landed in a slot (in either slot alike). -/
def winF (l : Fin 3) (c : Dev nD) : Buf (Elt F) ((c : Thread nD τ).loc cc0_scratch3) :=
  fun (i : S2x1024x2048.Idx) => win m l c (ix2 (i 1) (i 2))
def woutF (l : Fin 3) (c : Dev nD) : Buf (Elt F) ((c : Thread nD τ).loc cc0_scratch4) :=
  fun (i : S2x2048x1024.Idx) => wout m l c (ix2 (i 1) (i 2))

/-! ## What the loads read -/

section Reads
variable (c : Dev nD)

def rdX (f : Buf (Elt F) ((c : Thread nD τ).loc cc0_stg0_0)) : Vec F S64x1024 .f32 :=
  xM.view.readAt (Elt F) (Rect.unit (s := S64x1024) ![0, 0] S64x1024.size inb_S64x1024_S64x1024_0_0).toLoadRect f

/-- A piece of 256 rows of the first weight buffer's slot 0; -/
def rdPiece (k : Fin 4) (f : Buf (Elt F) ((c : Thread nD τ).loc cc0_scratch3)) : Vec F S1x256x2048 .f32 :=
  match k with
  | 0 => winM.view.readAt (Elt F) (Rect.unit (s := S2x1024x2048) ![0, 0, 0] S1x256x2048.size inb_S2x1024x2048_S1x256x2048_0_0_0).toLoadRect f
  | 1 => winM.view.readAt (Elt F) (Rect.unit (s := S2x1024x2048) ![0, 256, 0] S1x256x2048.size inb_S2x1024x2048_S1x256x2048_0_256_0).toLoadRect f
  | 2 => winM.view.readAt (Elt F) (Rect.unit (s := S2x1024x2048) ![0, 512, 0] S1x256x2048.size inb_S2x1024x2048_S1x256x2048_0_512_0).toLoadRect f
  | 3 => winM.view.readAt (Elt F) (Rect.unit (s := S2x1024x2048) ![0, 768, 0] S1x256x2048.size inb_S2x1024x2048_S1x256x2048_0_768_0).toLoadRect f

/-- a whole slot of it, -/
def rdWin (s : Fin 2) (f : Buf (Elt F) ((c : Thread nD τ).loc cc0_scratch3)) : Vec F S1x1024x2048 .f32 :=
  match s with
  | 0 => winM.view.readAt (Elt F) (Rect.unit (s := S2x1024x2048) ![0, 0, 0] S1x1024x2048.size inb_S2x1024x2048_S1x1024x2048_0_0_0).toLoadRect f
  | 1 => winM.view.readAt (Elt F) (Rect.unit (s := S2x1024x2048) ![1, 0, 0] S1x1024x2048.size inb_S2x1024x2048_S1x1024x2048_1_0_0).toLoadRect f

/-- and of the second. -/
def rdWout (s : Fin 2) (f : Buf (Elt F) ((c : Thread nD τ).loc cc0_scratch4)) : Vec F S1x2048x1024 .f32 :=
  match s with
  | 0 => woutM.view.readAt (Elt F) (Rect.unit (s := S2x2048x1024) ![0, 0, 0] S1x2048x1024.size inb_S2x2048x1024_S1x2048x1024_0_0_0).toLoadRect f
  | 1 => woutM.view.readAt (Elt F) (Rect.unit (s := S2x2048x1024) ![1, 0, 0] S1x2048x1024.size inb_S2x2048x1024_S1x2048x1024_1_0_0).toLoadRect f

/-- A half of a landing slot in layer 0, in layer 1, -/
def rdComm (l h : Fin 2) (s : Fin 3) (f : Buf (Elt F) ((c : Thread nD τ).loc cc0_scratch1)) : Vec F S1x1x64x512 .bf16 :=
  match l, h, s with
  | 0, 0, 0 => commM.view.readAt (Elt F) (Rect.unit (s := S2x3x64x1024) ![0, 0, 0, 0] S1x1x64x512.size inb_S2x3x64x1024_S1x1x64x512_0_0_0_0).toLoadRect f
  | 0, 0, 1 => commM.view.readAt (Elt F) (Rect.unit (s := S2x3x64x1024) ![0, 1, 0, 0] S1x1x64x512.size inb_S2x3x64x1024_S1x1x64x512_0_1_0_0).toLoadRect f
  | 0, 0, 2 => commM.view.readAt (Elt F) (Rect.unit (s := S2x3x64x1024) ![0, 2, 0, 0] S1x1x64x512.size inb_S2x3x64x1024_S1x1x64x512_0_2_0_0).toLoadRect f
  | 0, 1, 0 => commM.view.readAt (Elt F) (Rect.unit (s := S2x3x64x1024) ![0, 0, 0, 512] S1x1x64x512.size inb_S2x3x64x1024_S1x1x64x512_0_0_0_512).toLoadRect f
  | 0, 1, 1 => commM.view.readAt (Elt F) (Rect.unit (s := S2x3x64x1024) ![0, 1, 0, 512] S1x1x64x512.size inb_S2x3x64x1024_S1x1x64x512_0_1_0_512).toLoadRect f
  | 0, 1, 2 => commM.view.readAt (Elt F) (Rect.unit (s := S2x3x64x1024) ![0, 2, 0, 512] S1x1x64x512.size inb_S2x3x64x1024_S1x1x64x512_0_2_0_512).toLoadRect f
  | 1, 0, 0 => commM.view.readAt (Elt F) (Rect.unit (s := S2x3x64x1024) ![1, 0, 0, 0] S1x1x64x512.size inb_S2x3x64x1024_S1x1x64x512_1_0_0_0).toLoadRect f
  | 1, 0, 1 => commM.view.readAt (Elt F) (Rect.unit (s := S2x3x64x1024) ![1, 1, 0, 0] S1x1x64x512.size inb_S2x3x64x1024_S1x1x64x512_1_1_0_0).toLoadRect f
  | 1, 0, 2 => commM.view.readAt (Elt F) (Rect.unit (s := S2x3x64x1024) ![1, 2, 0, 0] S1x1x64x512.size inb_S2x3x64x1024_S1x1x64x512_1_2_0_0).toLoadRect f
  | 1, 1, 0 => commM.view.readAt (Elt F) (Rect.unit (s := S2x3x64x1024) ![1, 0, 0, 512] S1x1x64x512.size inb_S2x3x64x1024_S1x1x64x512_1_0_0_512).toLoadRect f
  | 1, 1, 1 => commM.view.readAt (Elt F) (Rect.unit (s := S2x3x64x1024) ![1, 1, 0, 512] S1x1x64x512.size inb_S2x3x64x1024_S1x1x64x512_1_1_0_512).toLoadRect f
  | 1, 1, 2 => commM.view.readAt (Elt F) (Rect.unit (s := S2x3x64x1024) ![1, 2, 0, 512] S1x1x64x512.size inb_S2x3x64x1024_S1x1x64x512_1_2_0_512).toLoadRect f

/-- a slot of row blocks in layer 2, and the device's own rows of its partial product. -/
def rdRows (s : Fin 3) (f : Buf (Elt F) ((c : Thread nD τ).loc cc0_scratch2)) : Vec F S1x16x1024 .bf16 :=
  match s with
  | 0 => rowsM.view.readAt (Elt F) (Rect.unit (s := S3x16x1024) ![0, 0, 0] S1x16x1024.size inb_S3x16x1024_S1x16x1024_0_0_0).toLoadRect f
  | 1 => rowsM.view.readAt (Elt F) (Rect.unit (s := S3x16x1024) ![1, 0, 0] S1x16x1024.size inb_S3x16x1024_S1x16x1024_1_0_0).toLoadRect f
  | 2 => rowsM.view.readAt (Elt F) (Rect.unit (s := S3x16x1024) ![2, 0, 0] S1x16x1024.size inb_S3x16x1024_S1x16x1024_2_0_0).toLoadRect f
def rdOwn (f : Buf (Elt F) ((c : Thread nD τ).loc cc0_scratch0)) : Vec F S16x1024 .bf16 :=
  partM.view.readAt (Elt F) (Rect.unit (s := S64x1024) (k0_off5 c) S16x1024.size (k0_off5_inb c)).toLoadRect f

end Reads

/-! ## Partial products and what lands -/

/-- A partial product's two column halves side by side: the contents of the partial buffer. -/
def halves (c : Dev nD) (p q : FVec F S64x512 .bf16) : Buf (Elt F) ((c : Thread nD τ).loc cc0_scratch0) :=
  fun (i : S64x1024.Idx) =>
    if h : (i 1).val < 512 then p (ix2 (i 0) ⟨(i 1).val, h⟩)
    else q (ix2 (i 0) ⟨(i 1).val - 512, by have : (i 1).val < 1024 := (i 1).2; omega⟩)

/-- The landing buffer when every device's partial buffer holds `P`: slot `s` holds the partner's in direction `s`. -/
def landed (P : (c : Dev nD) → Buf (Elt F) ((c : Thread nD τ).loc cc0_scratch0)) (c : Dev nD) :
    Buf (Elt F) ((c : Thread nD τ).loc cc0_scratch1) :=
  fun (i : S2x3x64x1024.Idx) => P (pr (i 1) c) (ix2 (n0 := 64) (n1 := 1024) (i 2) (i 3))

/-- The row blocks landed: slot `s` holds `c`'s own 16 rows of the partner's in direction `s`. -/
def landedRows (P : (c : Dev nD) → Buf (Elt F) ((c : Thread nD τ).loc cc0_scratch0)) (c : Dev nD) :
    Buf (Elt F) ((c : Thread nD τ).loc cc0_scratch2) :=
  fun (i : S3x16x1024.Idx) => P (pr (i 0) c) (ix2 (n0 := 64) (n1 := 1024)
    ⟨16 * c.val + (i 1).val, by have h1 : (i 1).val < 16 := (i 1).2; have h2 : c.val < 4 := c.2; omega⟩ (i 2))

/-! ## Layer 0 -/

def zW : FVec F S64x2048 .f32 := constant S64x2048 .f32 0x00000000#32
def zH : FVec F S64x512 .f32 := constant S64x512 .f32 0x00000000#32

def x0 (c : Dev nD) : FVec F S64x1024 .bf16 := k0_pay1 (rdX c (xst m c))
def acc0 (c : Dev nD) : FVec F S64x2048 .f32 := k0_pay2 (rdX c (xst m c)) (rdPiece c 0 (winF m 0 c))
def hid0 (c : Dev nD) : FVec F S64x2048 .f32 :=
  k0_pay6 (k0_pay3 (x0 m c) (acc0 m c) (rdPiece c 1 (winF m 0 c)) (rdPiece c 2 (winF m 0 c))) (k0_pay4 (x0 m c))
    (k0_pay5 (rdPiece c 3 (winF m 0 c))) zW
def act0 (c : Dev nD) : FVec F S64x2048 .bf16 := k0_pay7 (hid0 m c)
def wo0 (c : Dev nD) : FVec F S2048x1024 .bf16 := k0_pay8 (rdWout c 0 (woutF m 0 c))
def own0a (c : Dev nD) : FVec F S64x512 .f32 := k0_pay9 (hid0 m c) (rdWout c 0 (woutF m 0 c))
def own0b (c : Dev nD) : FVec F S64x512 .f32 := k0_pay11 (act0 m c) (wo0 m c)
def part0 (c : Dev nD) : Buf (Elt F) ((c : Thread nD τ).loc cc0_scratch0) :=
  halves c (k0_pay10 (hid0 m c) (rdWout c 0 (woutF m 0 c))) (k0_pay12 (act0 m c) (wo0 m c))
def got0 (c : Dev nD) (h : Fin 2) (s : Fin 3) : Vec F S1x1x64x512 .bf16 := rdComm c 0 h s (landed (part0 m) c)
def sum0a (c : Dev nD) : FVec F S64x512 .bf16 := k0_pay15 (k0_pay13 (own0a m c) (got0 m c 0 0) (got0 m c 0 1)) (k0_pay14 (got0 m c 0 2))

/-! ## Layer 1 -/

def x1 (c : Dev nD) : FVec F S64x1024 .bf16 := k0_pay16 (own0b m c) (sum0a m c) (got0 m c 1 0) (got0 m c 1 1) (got0 m c 1 2)
def hid1 (c : Dev nD) : FVec F S64x2048 .f32 := k0_pay17 (x1 m c) (rdWin c 1 (winF m 1 c))
def act1 (c : Dev nD) : FVec F S64x2048 .bf16 := k0_pay18 (hid1 m c)
def wo1 (c : Dev nD) : FVec F S2048x1024 .bf16 := k0_pay19 (rdWout c 1 (woutF m 1 c))
def own1a (c : Dev nD) : FVec F S64x512 .f32 := k0_pay20 (hid1 m c) (rdWout c 1 (woutF m 1 c))
def own1b (c : Dev nD) : FVec F S64x512 .f32 := k0_pay22 (act1 m c) (wo1 m c)
def part1 (c : Dev nD) : Buf (Elt F) ((c : Thread nD τ).loc cc0_scratch0) :=
  halves c (k0_pay21 (hid1 m c) (rdWout c 1 (woutF m 1 c))) (k0_pay23 (act1 m c) (wo1 m c))
def got1 (c : Dev nD) (h : Fin 2) (s : Fin 3) : Vec F S1x1x64x512 .bf16 := rdComm c 1 h s (landed (part1 m) c)
def sum1a (c : Dev nD) : FVec F S64x512 .bf16 := k0_pay24 (own1a m c) (got1 m c 0 0) (got1 m c 0 1) (got1 m c 0 2)
def sum1b (c : Dev nD) : FVec F S64x512 .f32 := k0_pay25 (own1b m c) (got1 m c 1 0) (got1 m c 1 1) (got1 m c 1 2)

/-! ## Layer 2 -/

def x2 (c : Dev nD) : FVec F S64x1024 .bf16 := k0_pay26 (sum1a m c) (sum1b m c)
def hid2 (c : Dev nD) : FVec F S64x2048 .f32 := k0_pay27 (x2 m c) (rdWin c 0 (winF m 2 c))
def act2 (c : Dev nD) : FVec F S64x2048 .bf16 := k0_pay28 (hid2 m c)
def wo2 (c : Dev nD) : FVec F S2048x1024 .bf16 := k0_pay29 (rdWout c 0 (woutF m 2 c))
def wo2a (c : Dev nD) : FVec F S2048x512 .bf16 := k0_pay30 (rdWout c 0 (woutF m 2 c))
def part2 (c : Dev nD) : Buf (Elt F) ((c : Thread nD τ).loc cc0_scratch0) :=
  halves c (k0_pay31 (act2 m c) (wo2a m c) zH) (k0_pay32 (act2 m c) (wo2 m c))
def got2 (c : Dev nD) (s : Fin 3) : Vec F S1x16x1024 .bf16 := rdRows c s (landedRows (part2 m) c)

/-- The partial buffer in layer `l`. -/
def partF (l : Fin 3) (c : Dev nD) : Buf (Elt F) ((c : Thread nD τ).loc cc0_scratch0) :=
  match l with
  | 0 => part0 m c
  | 1 => part1 m c
  | 2 => part2 m c

/-- Device `c`'s 16 rows of the result. -/
def out (c : Dev nD) : Buf (Elt F) ((c : Thread nD τ).loc cc0_stg1_0) :=
  k0_pay35 (k0_pay33 (rdOwn c (part2 m c)) (got2 m c 0)) (k0_pay34 (got2 m c 1)) (got2 m c 2)

end Cert.KernelIdeal.Mlp
-- ==== Proof.Base.lean ====
/-
# The exchange protocol

The cells the exchange runs on, their schedule under the rounds library, and what a device owes and may wait for.

A device's cells are its barrier, one send cell per (layer, half, direction) and one receive cell per (layer, half,
slot). All have one round. The barrier's has three duties, one per partner: the partner in direction `e` pays duty `e`
with its landing regions of the slot `inv e`, which is where this device's transfers in direction `e` land. A receive
cell's only duty pays the landed half slot, a send cell's gives the transfer's source back.
-/
module

public import proofs.«01_k».proof.Proof.Vals
public import Idealize.ShloMosaic.Lib.Transfers
public import Idealize.ShloMosaic.Lib.Ring.Trips

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds library's component (duties are partner directions) beside the pipeline's, and the counters local copies use. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## Boxes of indices -/

/-- The indices of a shape from `off` on, `size` of them along each axis. -/
def box {s : Shape} (off size : Fin s.rank → ℕ) : Finset s.Idx :=
  Finset.univ.filter fun i => ∀ a, off a ≤ (i a).val ∧ (i a).val < off a + size a

theorem mem_box {s : Shape} {off size : Fin s.rank → ℕ} {i : s.Idx} :
    i ∈ box off size ↔ ∀ a, off a ≤ (i a).val ∧ (i a).val < off a + size a := by simp [box]

theorem unit_set {s : Shape} (off size : Fin s.rank → ℕ) (inb) : (Rect.unit (s := s) off size inb).set = box off size := by
  ext i; rw [mem_box]; exact Rect.mem_set_unit

abbrev bComm (l : Fin 3) (h : Fin 2) (s : Fin 3) : Finset S2x3x64x1024.Idx := box (s := S2x3x64x1024) ![l.val, s.val, 0, 512 * h.val] ![1, 1, 64, 512]
abbrev bRows (h : Fin 2) (s : Fin 3) : Finset S3x16x1024.Idx := box (s := S3x16x1024) ![s.val, 0, 512 * h.val] ![1, 16, 512]
abbrev bHalf (h : Fin 2) : Finset S64x1024.Idx := box (s := S64x1024) ![0, 512 * h.val] ![64, 512]
abbrev bBlk (h : Fin 2) (d : Dev nD) : Finset S64x1024.Idx := box (s := S64x1024) ![16 * d.val, 512 * h.val] ![16, 512]
abbrev bPiece (s : Fin 2) (k : Fin 4) : Finset S2x1024x2048.Idx := box (s := S2x1024x2048) ![s.val, 256 * k.val, 0] ![1, 256, 2048]
abbrev bWin (s : Fin 2) : Finset S2x1024x2048.Idx := box (s := S2x1024x2048) ![s.val, 0, 0] ![1, 1024, 2048]
abbrev bSlab (s : Fin 2) (k : Fin 4) : Finset S2x2048x1024.Idx := box (s := S2x2048x1024) ![s.val, 512 * k.val, 0] ![1, 512, 1024]
abbrev bWout (s : Fin 2) : Finset S2x2048x1024.Idx := box (s := S2x2048x1024) ![s.val, 0, 0] ![1, 2048, 1024]

/-- Elements of a buffer of device `c` held at a share. -/
abbrev pt (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

/-- The same with contents unknown. -/
abbrev px (c : Dev nD) (b : Ref sig .tc) (S : Finset (Idx ((c : Thread nD τ).loc b))) : sProp 𝕄 :=
  iprop(∃ f, pt c b S fullShare f)

/-! ## The cells -/

/-- The runtime's barrier semaphore. -/
abbrev barS : Sem sig := (SemArray.scalar (sig.barrier 0 rfl) : Sems sig S_).sem
/-- The send semaphore of (layer, half, direction); -/
def sendS (l : Fin 3) (h : Fin 2) (j : Fin 3) : DmaSem sig :=
  ⟨2 + (6 * l.val + 3 * h.val + j.val), by show _ < 54; omega⟩
/-- the receive semaphore of (layer, half, slot); -/
def recvS (l : Fin 3) (h : Fin 2) (j : Fin 3) : DmaSem sig :=
  ⟨20 + (6 * l.val + 3 * h.val + j.val), by show _ < 54; omega⟩
/-- the weight copies' semaphores of (slot, piece). -/
def winS (s : Fin 2) (k : Fin 4) : DmaSem sig := ⟨38 + (4 * s.val + k.val), by show _ < 54; omega⟩
def woutS (s : Fin 2) (k : Fin 4) : DmaSem sig := ⟨46 + (4 * s.val + k.val), by show _ < 54; omega⟩

/-- A device's cells: `none` the barrier, `(false, …)` the send cells, `(true, …)` the receive cells. -/
abbrev CI : Type := Option (Bool × Fin 3 × Fin 2 × Fin 3)

def csem : CI → SemLoc sig
  | none => .reg barS
  | some (false, l, h, j) => .dma (sendS l h j)
  | some (true, l, h, j) => .dma (recvS l h j)

theorem csem_injective : Function.Injective csem := by
  rintro (_ | ⟨_ | _, l, h, j⟩) (_ | ⟨_ | _, l', h', j'⟩) e <;> first | rfl | (exfalso; cases e; done) | skip
  all_goals
    have e' := congrArg Fin.val (SemLoc.dma.inj e)
    simp only [sendS, recvS] at e'
    have := j.2; have := j'.2; have := h.2; have := h'.2; have := l.2; have := l'.2
  · obtain rfl : l = l' := Fin.ext (by omega)
    obtain rfl : h = h' := Fin.ext (by omega)
    obtain rfl : j = j' := Fin.ext (by omega)
    rfl
  · omega
  · omega
  · obtain rfl : l = l' := Fin.ext (by omega)
    obtain rfl : h = h' := Fin.ext (by omega)
    obtain rfl : j = j' := Fin.ext (by omega)
    rfl

abbrev cell (c : Dev nD) (i : CI) : GSem nD τ sig := ((c : Thread nD τ), csem i)

open Classical in
/-- Which of a device's cells a semaphore is, if any. -/
def ciOf (g : SemLoc sig) : Option CI := if h : ∃ i, csem i = g then some h.choose else none

theorem ciOf_csem (i : CI) : ciOf (csem i) = some i := by
  have h : ∃ i', csem i' = csem i := ⟨i, rfl⟩
  unfold ciOf
  rw [dif_pos h]
  exact congrArg some (csem_injective h.choose_spec)

/-- The credit of a transfer of layer `l`. -/
def amt (l : Fin 3) : ℕ :=
  if l = 2 then Ref.dmaCredit cc0_scratch2 S16x512 .bf16 else Ref.dmaCredit cc0_scratch1 S64x512 .bf16

theorem amt_pos (l : Fin 3) : 0 < amt l := by revert l; decide

/-! ## The payloads -/

variable (m : (ℓ : Loc nD τ sig) → Buf (Elt F) ℓ)

/-- The landing region of (layer, half, slot) on device `c`, whatever it holds. -/
def lnd (c : Dev nD) (l : Fin 3) (h : Fin 2) (s : Fin 3) : sProp 𝕄 :=
  if l = 2 then px c cc0_scratch2 (bRows h s) else px c cc0_scratch1 (bComm l h s)

/-- All the landing regions of slot `s` on device `c`. -/
def lnds (c : Dev nD) (s : Fin 3) : sProp 𝕄 :=
  iprop(lnd c 0 0 s ∗ lnd c 0 1 s ∗ lnd c 1 0 s ∗ lnd c 1 1 s ∗ lnd c 2 0 s ∗ lnd c 2 1 s)

/-- What a receive cell hands over: the half slot, landed. -/
def recvPay (c : Dev nD) (l : Fin 3) (h : Fin 2) (s : Fin 3) : sProp 𝕄 :=
  if l = 2 then pt c cc0_scratch2 (bRows h s) fullShare (landedRows (partF m l) c)
  else pt c cc0_scratch1 (bComm l h s) fullShare (landed (partF m l) c)

/-- What a send cell hands back: a third of the half it read, in layer 2 the row block. -/
def sendPay (c : Dev nD) (l : Fin 3) (h : Fin 2) (j : Fin 3) : sProp 𝕄 :=
  if l = 2 then pt c cc0_scratch0 (bBlk h (pr j c)) fullShare (partF m l c)
  else pt c cc0_scratch0 (bHalf h) (Ring.shares3 fullShare j) (partF m l c)

def pay (c : Dev nD) (i : CI) (e : Fin 3) : sProp 𝕄 :=
  match i with
  | none => lnds (pr e c) (inv e)
  | some (false, l, h, j) => sendPay m c l h j
  | some (true, l, h, s) => recvPay m c l h s

instance lnd_storable (c : Dev nD) (l h s) : BI.Storable (upEmb : UEmb _ 𝕄) (lnd (F := F) c l h s) := by
  unfold lnd; split <;> infer_instance
instance lnds_storable (c : Dev nD) (s) : BI.Storable (upEmb : UEmb _ 𝕄) (lnds (F := F) c s) := by unfold lnds; infer_instance
instance recvPay_storable (c : Dev nD) (l h s) : BI.Storable (upEmb : UEmb _ 𝕄) (recvPay m c l h s) := by
  unfold recvPay; split <;> infer_instance
instance sendPay_storable (c : Dev nD) (l h s) : BI.Storable (upEmb : UEmb _ 𝕄) (sendPay m c l h s) := by
  unfold sendPay; split <;> infer_instance
instance pay_storable (c : Dev nD) (i e) : BI.Storable (upEmb : UEmb _ 𝕄) (pay m c i e) := by
  unfold pay; split <;> infer_instance

/-! ## The schedule -/

def dutiesOf : CI → Finset (Fin 3)
  | none => Finset.univ
  | some _ => {0}
def amtOf : CI → ℕ
  | none => 1
  | some (_, l, _, _) => amt l
def totalOf : CI → ℕ
  | none => 3
  | some (_, l, _, _) => amt l

def rd : Rounds.Schedule (GSem nD τ sig) (Fin 3) 𝕄 where
  duties g r := if r = 0 ∧ g.1.2 = .tc then (ciOf g.2).elim ∅ dutiesOf else ∅
  unitless _ := False
  amount g _ _ := (ciOf g.2).elim 1 amtOf
  payload g _ e := (ciOf g.2).elim iprop(emp) fun i => pay m g.1.1 i e
  amount_pos g _ _ _ := by
    cases ciOf g.2 with
    | none => exact Nat.one_pos
    | some i => rcases i with _ | ⟨b, l, h, j⟩
                · exact Nat.one_pos
                · exact amt_pos l

instance rd_payload_storable (g : GSem nD τ sig) (r : ℕ) (d : Fin 3) : BI.Storable (upEmb : UEmb _ 𝕄) ((rd m).payload g r d) := by
  show BI.Storable upEmb ((ciOf g.2).elim iprop(emp) fun i => pay m g.1.1 i d)
  cases ciOf g.2 <;> dsimp only [Option.elim] <;> infer_instance

theorem duties_cell (c : Dev nD) (i : CI) : (rd m).duties (cell c i) 0 = dutiesOf i := by
  dsimp only [rd]; rw [if_pos ⟨rfl, rfl⟩, ciOf_csem]; rfl
theorem duties_later (g : GSem nD τ sig) : ∀ r, 1 ≤ r → (rd m).duties g r = ∅ :=
  fun r hr => by dsimp only [rd]; rw [if_neg fun h => by omega]
theorem amount_cell (c : Dev nD) (i : CI) (r e) : (rd m).amount (cell c i) r e = amtOf i := by
  dsimp only [rd]; rw [ciOf_csem]; rfl
theorem payload_cell (c : Dev nD) (i : CI) (r e) : (rd m).payload (cell c i) r e = pay m c i e := by
  dsimp only [rd]; rw [ciOf_csem]; rfl
theorem expect_cell (c : Dev nD) (i : CI) : (rd m).expect (cell c i) 0 = totalOf i := by
  unfold Schedule.expect Schedule.amountOf
  rw [duties_cell, Finset.sum_congr rfl fun d _ => amount_cell m c i 0 d, Finset.sum_const, smul_eq_mul]
  rcases i with _ | ⟨b, l, h, j⟩
  · rfl
  · exact Nat.one_mul _
theorem rest_cell (c : Dev nD) (i : CI) : bigSep ((rd m).duties (cell c i) 0 \ ∅) (fun d => (rd m).payload (cell c i) 0 d)
    = bigSep (dutiesOf i) fun d => pay m c i d := by
  rw [Finset.sdiff_empty, duties_cell]; exact congrArg (bigSep (dutiesOf i)) (funext fun d => payload_cell m c i 0 d)

/-! ## What a device owes -/

/-- The payments of a device, in the order it makes them: the three signals, then the transfers. -/
inductive Pay where
  | sig (j : Fin 3)
  | xfer (l : Fin 3) (h : Fin 2) (j : Fin 3)
  deriving DecidableEq

def payList : List Pay :=
  [.sig 0, .sig 1, .sig 2,
   .xfer 0 0 0, .xfer 0 0 1, .xfer 0 0 2, .xfer 0 1 0, .xfer 0 1 1, .xfer 0 1 2,
   .xfer 1 0 0, .xfer 1 0 1, .xfer 1 0 2, .xfer 1 1 0, .xfer 1 1 1, .xfer 1 1 2,
   .xfer 2 0 0, .xfer 2 0 1, .xfer 2 0 2, .xfer 2 1 0, .xfer 2 1 1, .xfer 2 1 2]

/-- The cell a payment goes to, and its amount. -/
def payCell (c : Dev nD) : Pay → GSem nD τ sig
  | .sig j => cell (pr j c) none
  | .xfer l h j => cell (pr j c) (some (true, l, h, inv j))
def payAmt : Pay → ℕ
  | .sig _ => 1
  | .xfer l _ _ => amt l
def tal (c : Dev nD) (p : Pay) : CellTallies nD τ sig Unit := tallyAt (payCell c p) () (payAmt p)

/-- What is owed while the payments `ps` are to come. -/
def ow (c : Dev nD) : List Pay → CellTallies nD τ sig Unit
  | [] => 0
  | p :: ps => ow c ps + tal c p

/-- Owing all but the first `n` payments, whatever has been waited for. -/
def Ow (c : Dev nD) (n : ℕ) : sProp 𝕄 := iprop(∃ W, owes (c : Thread nD τ) (ow c (payList.drop n)) W)

/-! ## The levels -/

def L (g : GSem nD τ sig) : Finset Unit := if g.1.2 = .tc then {()} else ∅
/-- The barrier's at 1, a receive cell of layer `l` at `2 + l`, everything else at 0. -/
def lvS : SemLoc sig → ℕ
  | .reg s => if s = barS then 1 else 0
  | .dma q => if 20 ≤ q.val ∧ q.val < 38 then 2 + (q.val - 20) / 6 else 0
def lv (g : GSem nD τ sig) (_ : Unit) : ℕ := lvS g.2
def lvP : Pay → ℕ
  | .sig _ => 1
  | .xfer l _ _ => 2 + l.val

theorem L_of_ne (g : GSem nD τ sig) (h : g.1.2 ≠ .tc) : L g = ∅ := if_neg h
theorem L_tc (c : Dev nD) (sm : SemLoc sig) : L ((c : Thread nD τ), sm) = {()} := if_pos rfl

theorem lvS_recv (l : Fin 3) (h : Fin 2) (s : Fin 3) : lvS (.dma (recvS l h s)) = 2 + l.val := by
  revert l h s; decide
theorem lvS_send (l : Fin 3) (h : Fin 2) (s : Fin 3) : lvS (.dma (sendS l h s)) = 0 := by
  revert l h s; decide
theorem lv_payCell (c : Dev nD) (p : Pay) (u : Unit) : lv (payCell c p) u = lvP p := by
  cases p with
  | sig j =>
    show (if barS = barS then 1 else 0) = 1
    exact if_pos rfl
  | xfer l h j => exact lvS_recv l h (inv j)

theorem ow_pos {c : Dev nD} {ps : List Pay} {g : GSem nD τ sig} {u : Unit} (h : 0 < ow c ps g u) : ∃ p ∈ ps, g = payCell c p := by
  induction ps with
  | nil => exact absurd h (Nat.lt_irrefl 0)
  | cons p ps ih =>
    unfold ow tal at h
    rw [Pi.add_apply, Finsupp.add_apply, tallyAt_apply] at h
    by_cases hg : g = payCell c p ∧ u = ()
    · exact ⟨p, List.mem_cons_self, hg.1⟩
    · rw [if_neg hg, Nat.add_zero] at h
      obtain ⟨p', hp', e⟩ := ih h
      exact ⟨p', List.mem_cons_of_mem _ hp', e⟩

theorem payCell_tc (c : Dev nD) (p : Pay) : (payCell c p).1.2 = .tc := by cases p <;> rfl

/-- A device may wait on a semaphore that lies below everything it still owes. -/
theorem mayWait (c : Dev nD) (sm : SemLoc sig) (ps : List Pay) (h : ∀ p ∈ ps, lvS sm < lvP p) :
    (levAts L lv : sProp 𝕄) ⊢ MayWait (c : Thread nD τ) sm () (ow c ps) :=
  MayOwe.of_cut (L := L) (lev := lv) (lvS sm)
    (fun p hp => by rw [Finset.mem_singleton.mp hp, L_tc]; exact Finset.mem_singleton_self _)
    (fun g u hg => by
      obtain ⟨p, -, rfl⟩ := ow_pos hg
      unfold L; rw [if_pos (payCell_tc c p)]; exact Finset.mem_singleton_self _)
    (fun p hp => by rw [Finset.mem_singleton.mp hp]; exact le_refl _)
    (fun g u hg => by
      obtain ⟨p, hp, rfl⟩ := ow_pos hg
      rw [lv_payCell]; exact h p hp)

/-! ## The shared context: every cell's invariant and first round, and the levels -/

variable (K : Dev nD × CI → ℕ)

def recs : sProp 𝕄 :=
  bigSep Finset.univ fun ci : Dev nD × CI => iprop(cellInv ER (rd m) (K ci) (cell ci.1 ci.2) ∗ reached ER (cell ci.1 ci.2) 0)
def Ctx : sProp 𝕄 := iprop(recs m K ∗ levAts L lv)

instance recs_persistent : BI.Persistent (recs m K) := by unfold recs; infer_instance
instance Ctx_persistent : BI.Persistent (Ctx m K) := by unfold Ctx; infer_instance

theorem recs_at (c : Dev nD) (i : CI) : recs m K ⊢ iprop(cellInv ER (rd m) (K (c, i)) (cell c i) ∗ reached ER (cell c i) 0) :=
  bigSep_elim (Finset.mem_univ (c, i))

theorem ctx_cell (c : Dev nD) (i : CI) : Ctx m K ⊢ cellInv ER (rd m) (K (c, i)) (cell c i) := by
  unfold Ctx
  iintro ⟨H, -⟩
  ihave H := (recs_at m K c i) $$ H
  icases H with ⟨H, -⟩
  iexact H
theorem ctx_reached (c : Dev nD) (i : CI) : Ctx m K ⊢ (reached ER (cell c i) 0 : sProp 𝕄) := by
  unfold Ctx
  iintro ⟨H, -⟩
  ihave H := (recs_at m K c i) $$ H
  icases H with ⟨-, H⟩
  iexact H
theorem ctx_lev : Ctx m K ⊢ (levAts L lv : sProp 𝕄) := by
  unfold Ctx
  iintro ⟨-, H⟩
  iexact H

/-! ## What a device holds of its cells -/

/-- For a transfer in direction `j`: its two duties and the position of its send cell. -/
def sTok (c : Dev nD) (l : Fin 3) (h : Fin 2) (j : Fin 3) : sProp 𝕄 :=
  iprop(dutyTok ER (cell c (some (false, l, h, j))) 0 (0 : Fin 3)
    ∗ dutyTok ER (cell (pr j c) (some (true, l, h, inv j))) 0 (0 : Fin 3)
    ∗ atPos ER (cell c (some (false, l, h, j))) 0 ∅ 0)

/-- For a wait: the cell's credit and position. -/
def hold (c : Dev nD) (i : CI) : sProp 𝕄 :=
  iprop(cred (tallyAt (cell c i) () (totalOf i)) ∗ atPos ER (cell c i) 0 ∅ 0)

end Cert.KernelIdeal.Mlp
-- ==== Proof.Geom.lean ====
/-
# Views, boxes and contents

The element sets of the kernel's views as boxes, how the buffers split into boxes and join again, and what a copy or a
store leaves in its box: the contents `Vals.lean` names.
-/
module

public import proofs.«01_k».proof.Proof.Base

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Element sets -/

theorem setOn_whole (b : Ref sig .tc) (X : Finset b.ty.shape.Idx) : (View.whole b).setOn X = X := by
  unfold View.setOn; exact Finset.map_refl
theorem slice_whole_set (b : Ref sig .tc) (off size : Fin b.ty.shape.rank → ℕ) (inb) :
    ((View.whole b).slice (Rect.unit (s := b.ty.shape) off size inb)).set = box off size := by
  rw [View.set_slice_whole, unit_set]

/-- Membership in a box of literal rank, spelt out. -/
theorem mem_box2 {d o z : Fin 2 → ℕ} {i : (⟨2, d⟩ : Shape).Idx} :
    i ∈ box (s := ⟨2, d⟩) o z ↔ (o 0 ≤ (i 0).val ∧ (i 0).val < o 0 + z 0) ∧ (o 1 ≤ (i 1).val ∧ (i 1).val < o 1 + z 1) := by
  rw [mem_box]; exact Fin.forall_fin_two
theorem mem_box3 {d o z : Fin 3 → ℕ} {i : (⟨3, d⟩ : Shape).Idx} :
    i ∈ box (s := ⟨3, d⟩) o z ↔ (o 0 ≤ (i 0).val ∧ (i 0).val < o 0 + z 0) ∧ (o 1 ≤ (i 1).val ∧ (i 1).val < o 1 + z 1)
      ∧ (o 2 ≤ (i 2).val ∧ (i 2).val < o 2 + z 2) := by
  rw [mem_box]
  exact ⟨fun h => ⟨h 0, h 1, h 2⟩, fun h a => by fin_cases a; exacts [h.1, h.2.1, h.2.2]⟩
theorem mem_box4 {d o z : Fin 4 → ℕ} {i : (⟨4, d⟩ : Shape).Idx} :
    i ∈ box (s := ⟨4, d⟩) o z ↔ (o 0 ≤ (i 0).val ∧ (i 0).val < o 0 + z 0) ∧ (o 1 ≤ (i 1).val ∧ (i 1).val < o 1 + z 1)
      ∧ (o 2 ≤ (i 2).val ∧ (i 2).val < o 2 + z 2) ∧ (o 3 ≤ (i 3).val ∧ (i 3).val < o 3 + z 3) := by
  rw [mem_box]
  exact ⟨fun h => ⟨h 0, h 1, h 2, h 3⟩, fun h a => by fin_cases a; exacts [h.1, h.2.1, h.2.2.1, h.2.2.2]⟩

/-! ## Splitting and joining -/

section Split
variable {c : Dev nD} {b : Ref sig .tc} {q : PosShare TreeShare} {f : Buf (Elt F) ((c : Thread nD τ).loc b)}

/-- A set held that is the union of two disjoint ones is the two held. -/
theorem pt_cut {S A B : Finset (Idx ((c : Thread nD τ).loc b))} (hu : S = A ∪ B) (hd : Disjoint A B) :
    (pt c b S q f : sProp 𝕄) ⊣⊢ iprop(pt c b A q f ∗ pt c b B q f) := by
  subst hu; exact pointsTo_union hd

/-- A set that a finite family of boxes partitions. -/
theorem pt_parts {T : Type} [Fintype T] {S : Finset (Idx ((c : Thread nD τ).loc b))} (B : T → Finset (Idx ((c : Thread nD τ).loc b)))
    (hu : ∀ i, i ∈ S ↔ ∃ t, i ∈ B t) (hd : ∀ t t' i, i ∈ B t → i ∈ B t' → t = t') :
    (pt c b S q f : sProp 𝕄) = bigSep Finset.univ fun t => pt c b (B t) q f := by
  classical
  have e : S = Finset.univ.biUnion B := by ext i; simp [hu i]
  rw [e]
  exact pointsTo_biUnion _ _ fun t _ t' _ hne => Finset.disjoint_left.mpr fun i h h' => hne (hd t t' i h h')

/-- The same with unknown contents, joined: a family's boxes, each with some contents, are their union with some. -/
theorem px_join {T : Type} [Fintype T] {S : Finset (Idx ((c : Thread nD τ).loc b))} (B : T → Finset (Idx ((c : Thread nD τ).loc b)))
    (f₀ : Buf (Elt F) ((c : Thread nD τ).loc b))
    (hu : ∀ i, i ∈ S ↔ ∃ t, i ∈ B t) (hd : ∀ t t' i, i ∈ B t → i ∈ B t' → t = t') :
    bigSep Finset.univ (fun t => (px c b (B t) : sProp 𝕄)) ⊢ px c b S := by
  classical
  have e : S = Finset.univ.biUnion B := by ext i; simp [hu i]
  haveI : Nonempty (Buf (Elt F) ((c : Thread nD τ).loc b)) := ⟨f₀⟩
  rw [e]
  iintro H
  ihave H := (BI.bigSep_exists_pi Finset.univ (fun t (g : Buf (Elt F) ((c : Thread nD τ).loc b)) => (pt c b (B t) fullShare g : sProp 𝕄))) $$ H
  icases H with ⟨%g, H⟩
  ihave H := (pointsTo_biUnion_join Finset.univ B g f₀
    (fun t _ t' _ hne => Finset.disjoint_left.mpr fun i h h' => hne (hd t t' i h h'))) $$ H
  icases H with ⟨%g', -, H⟩
  iexists g'
  iexact H

end Split

/-- What a device holds of a half of its partial buffer is three thirds of it. -/
theorem half_thirds (c : Dev nD) (h : Fin 2) (f : Buf (Elt F) ((c : Thread nD τ).loc cc0_scratch0)) :
    (pt c cc0_scratch0 (bHalf h) fullShare f : sProp 𝕄) ⊣⊢ iprop(pt c cc0_scratch0 (bHalf h) (Ring.shares3 fullShare 0) f
      ∗ pt c cc0_scratch0 (bHalf h) (Ring.shares3 fullShare 1) f ∗ pt c cc0_scratch0 (bHalf h) (Ring.shares3 fullShare 2) f) :=
  Ring.pointsTo_thirds fullShare f

theorem bWin_parts (s : Fin 2) (i : S2x1024x2048.Idx) : i ∈ bWin s ↔ ∃ k, i ∈ bPiece s k := by
  simp only [mem_box3]
  show _ ↔ ∃ k : Fin 4, (s.val ≤ _ ∧ _) ∧ (256 * k.val ≤ (i 1).val ∧ (i 1).val < 256 * k.val + 256) ∧ _
  have h1 : (i 1).val < 1024 := (i 1).2
  constructor
  · rintro ⟨h0, -, h2⟩
    exact ⟨⟨(i 1).val / 256, by omega⟩, h0, ⟨by show 256 * ((i 1).val / 256) ≤ _; omega, by show _ < 256 * ((i 1).val / 256) + 256; omega⟩, h2⟩
  · rintro ⟨k, h0, -, h2⟩
    exact ⟨h0, ⟨Nat.zero_le _, by show _ < 0 + 1024; omega⟩, h2⟩
theorem bPiece_inj (s : Fin 2) (k k' : Fin 4) (i : S2x1024x2048.Idx) (h : i ∈ bPiece s k) (h' : i ∈ bPiece s k') : k = k' := by
  have a : 256 * k.val ≤ (i 1).val ∧ (i 1).val < 256 * k.val + 256 := (mem_box3.mp h).2.1
  have b : 256 * k'.val ≤ (i 1).val ∧ (i 1).val < 256 * k'.val + 256 := (mem_box3.mp h').2.1
  exact Fin.ext (by omega)

theorem bWout_parts (s : Fin 2) (i : S2x2048x1024.Idx) : i ∈ bWout s ↔ ∃ k, i ∈ bSlab s k := by
  simp only [mem_box3]
  show _ ↔ ∃ k : Fin 4, (s.val ≤ _ ∧ _) ∧ (512 * k.val ≤ (i 1).val ∧ (i 1).val < 512 * k.val + 512) ∧ _
  have h1 : (i 1).val < 2048 := (i 1).2
  constructor
  · rintro ⟨h0, -, h2⟩
    exact ⟨⟨(i 1).val / 512, by omega⟩, h0, ⟨by show 512 * ((i 1).val / 512) ≤ _; omega, by show _ < 512 * ((i 1).val / 512) + 512; omega⟩, h2⟩
  · rintro ⟨k, h0, -, h2⟩
    exact ⟨h0, ⟨Nat.zero_le _, by show _ < 0 + 2048; omega⟩, h2⟩
theorem bSlab_inj (s : Fin 2) (k k' : Fin 4) (i : S2x2048x1024.Idx) (h : i ∈ bSlab s k) (h' : i ∈ bSlab s k') : k = k' := by
  have a : 512 * k.val ≤ (i 1).val ∧ (i 1).val < 512 * k.val + 512 := (mem_box3.mp h).2.1
  have b : 512 * k'.val ≤ (i 1).val ∧ (i 1).val < 512 * k'.val + 512 := (mem_box3.mp h').2.1
  exact Fin.ext (by omega)

/-- A finite family over the four pieces, one by one. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-- A slot of the first weight buffer is its four pieces, -/
theorem win_pieces (c : Dev nD) (s : Fin 2) (f : Buf (Elt F) ((c : Thread nD τ).loc cc0_scratch3)) :
    (pt c cc0_scratch3 (bWin s) fullShare f : sProp 𝕄) = iprop(pt c cc0_scratch3 (bPiece s 0) fullShare f ∗ pt c cc0_scratch3 (bPiece s 1) fullShare f
      ∗ pt c cc0_scratch3 (bPiece s 2) fullShare f ∗ pt c cc0_scratch3 (bPiece s 3) fullShare f) :=
  (pt_parts (c := c) (b := cc0_scratch3) (bPiece s) (bWin_parts s) (bPiece_inj s)).trans (bigSep_four _)
/-- and one of the second. -/
theorem wout_slabs (c : Dev nD) (s : Fin 2) (f : Buf (Elt F) ((c : Thread nD τ).loc cc0_scratch4)) :
    (pt c cc0_scratch4 (bWout s) fullShare f : sProp 𝕄) = iprop(pt c cc0_scratch4 (bSlab s 0) fullShare f ∗ pt c cc0_scratch4 (bSlab s 1) fullShare f
      ∗ pt c cc0_scratch4 (bSlab s 2) fullShare f ∗ pt c cc0_scratch4 (bSlab s 3) fullShare f) :=
  (pt_parts (c := c) (b := cc0_scratch4) (bSlab s) (bWout_parts s) (bSlab_inj s)).trans (bigSep_four _)

/-! ## The row blocks of a half -/

/-- The four devices, `c` first. -/
abbrev four (c : Dev nD) (k : Fin 4) : Dev nD := ![c, pr 0 c, pr 1 c, pr 2 c] k

theorem four_inj (c : Dev nD) : ∀ k k' : Fin 4, (four c k).val = (four c k').val → k = k' := by revert c; decide
theorem four_surj (c : Dev nD) : ∀ q : Fin 4, ∃ k : Fin 4, (four c k).val = q.val := by revert c; decide

theorem bHalf_parts (c : Dev nD) (h : Fin 2) (i : S64x1024.Idx) : i ∈ bHalf h ↔ ∃ k, i ∈ bBlk h (four c k) := by
  simp only [mem_box2]
  show _ ↔ ∃ k : Fin 4, (16 * (four c k).val ≤ (i 0).val ∧ (i 0).val < 16 * (four c k).val + 16) ∧ _
  have h0 : (i 0).val < 64 := (i 0).2
  constructor
  · rintro ⟨-, h1⟩
    obtain ⟨k, hk⟩ := four_surj c ⟨(i 0).val / 16, by omega⟩
    exact ⟨k, ⟨by rw [hk]; show 16 * ((i 0).val / 16) ≤ _; omega, by rw [hk]; show _ < 16 * ((i 0).val / 16) + 16; omega⟩, h1⟩
  · rintro ⟨k, -, h1⟩
    exact ⟨⟨Nat.zero_le _, by show _ < 0 + 64; omega⟩, h1⟩
theorem bBlk_inj (c : Dev nD) (h : Fin 2) (k k' : Fin 4) (i : S64x1024.Idx) (hi : i ∈ bBlk h (four c k)) (hi' : i ∈ bBlk h (four c k')) : k = k' := by
  have a : 16 * (four c k).val ≤ (i 0).val ∧ (i 0).val < 16 * (four c k).val + 16 := (mem_box2.mp hi).1
  have b : 16 * (four c k').val ≤ (i 0).val ∧ (i 0).val < 16 * (four c k').val + 16 := (mem_box2.mp hi').1
  exact four_inj c k k' (by omega)

/-- A half of the partial buffer is its four row blocks, the device's own first. -/
theorem half_blks (c : Dev nD) (h : Fin 2) (f : Buf (Elt F) ((c : Thread nD τ).loc cc0_scratch0)) :
    (pt c cc0_scratch0 (bHalf h) fullShare f : sProp 𝕄) = iprop(pt c cc0_scratch0 (bBlk h c) fullShare f
      ∗ pt c cc0_scratch0 (bBlk h (pr 0 c)) fullShare f ∗ pt c cc0_scratch0 (bBlk h (pr 1 c)) fullShare f
      ∗ pt c cc0_scratch0 (bBlk h (pr 2 c)) fullShare f) :=
  (pt_parts (c := c) (b := cc0_scratch0) (fun k => bBlk h (four c k)) (bHalf_parts c h) (bBlk_inj c h)).trans (bigSep_four _)

/-- The device's own rows, both halves; -/
abbrev bOwn (c : Dev nD) : Finset S64x1024.Idx := box (s := S64x1024) ![16 * c.val, 0] ![16, 1024]
theorem own_cut (c d : Dev nD) (f : Buf (Elt F) ((c : Thread nD τ).loc cc0_scratch0)) :
    (pt c cc0_scratch0 (bOwn d) fullShare f : sProp 𝕄) ⊣⊢ iprop(pt c cc0_scratch0 (bBlk 0 d) fullShare f ∗ pt c cc0_scratch0 (bBlk 1 d) fullShare f) := by
  refine pt_cut ?_ ?_
  · ext i
    rw [Finset.mem_union]
    simp only [mem_box2]
    have h0 : (i (1 : Fin 2)).val < 1024 := (i (1 : Fin 2)).2
    show (_ ∧ (0 ≤ (i (1 : Fin 2)).val ∧ (i (1 : Fin 2)).val < 0 + 1024)) ↔
      (_ ∧ (0 ≤ (i (1 : Fin 2)).val ∧ (i (1 : Fin 2)).val < 0 + 512)) ∨ (_ ∧ (512 ≤ (i (1 : Fin 2)).val ∧ (i (1 : Fin 2)).val < 512 + 512))
    constructor
    · rintro ⟨a, -⟩
      by_cases hl : (i (1 : Fin 2)).val < 512
      · exact .inl ⟨a, by omega, by omega⟩
      · exact .inr ⟨a, by omega, by omega⟩
    · rintro (⟨a, -⟩ | ⟨a, -⟩) <;> exact ⟨a, by omega, by omega⟩
  · refine Finset.disjoint_left.mpr fun i h h' => ?_
    have a : (i (1 : Fin 2)).val < 0 + 512 := (mem_box2.mp h).2.2
    have b : 512 ≤ (i (1 : Fin 2)).val := (mem_box2.mp h').2.1
    omega

/-- a slot of row blocks, both halves. -/
abbrev bSlot (s : Fin 3) : Finset S3x16x1024.Idx := box (s := S3x16x1024) ![s.val, 0, 0] ![1, 16, 1024]
theorem slot_cut (c : Dev nD) (s : Fin 3) (f : Buf (Elt F) ((c : Thread nD τ).loc cc0_scratch2)) :
    (pt c cc0_scratch2 (bSlot s) fullShare f : sProp 𝕄) ⊣⊢ iprop(pt c cc0_scratch2 (bRows 0 s) fullShare f ∗ pt c cc0_scratch2 (bRows 1 s) fullShare f) := by
  refine pt_cut ?_ ?_
  · ext i
    rw [Finset.mem_union]
    simp only [mem_box3]
    have h0 : (i (2 : Fin 3)).val < 1024 := (i (2 : Fin 3)).2
    show (_ ∧ _ ∧ (0 ≤ (i (2 : Fin 3)).val ∧ (i (2 : Fin 3)).val < 0 + 1024)) ↔
      (_ ∧ _ ∧ (0 ≤ (i (2 : Fin 3)).val ∧ (i (2 : Fin 3)).val < 0 + 512)) ∨ (_ ∧ _ ∧ (512 ≤ (i (2 : Fin 3)).val ∧ (i (2 : Fin 3)).val < 512 + 512))
    constructor
    · rintro ⟨a, b, -⟩
      by_cases hl : (i (2 : Fin 3)).val < 512
      · exact .inl ⟨a, b, by omega, by omega⟩
      · exact .inr ⟨a, b, by omega, by omega⟩
    · rintro (⟨a, b, -⟩ | ⟨a, b, -⟩) <;> exact ⟨a, b, by omega, by omega⟩
  · refine Finset.disjoint_left.mpr fun i h h' => ?_
    have a : (i (2 : Fin 3)).val < 0 + 512 := (mem_box3.mp h).2.2.2
    have b : 512 ≤ (i (2 : Fin 3)).val := (mem_box3.mp h').2.2.1
    omega

/-! ## What a copy leaves -/

/-- A write through a view leaves, on the view's elements, any contents the view reads the payload of. -/
theorem write_of_read {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨y, rfl⟩ := View.exists_emb_of_mem_set v hi
  subst h
  rw [View.write_emb_of_mem _ _ (Finset.mem_univ y), View.read_apply, cast_cast, cast_eq]

section Landings
variable (m : (ℓ : Loc nD τ sig) → Buf (Elt F) ℓ)

/-- A half of the partial buffer, landed in a half slot of the partner in direction `j`. -/
theorem read_landed (P : (c : Dev nD) → Buf (Elt F) ((c : Thread nD τ).loc cc0_scratch0)) (c : Dev nD) (l : Fin 3) (h : Fin 2) (j : Fin 3)
    (inb inb') (hq : (Rect.unit (s := S2x3x64x1024) ![l.val, (inv j).val, 0, 512 * h.val] S1x1x64x512.size inb).shape.Squeezes S64x512) :
    (((View.whole cc0_scratch1).slice (Rect.unit (s := S2x3x64x1024) ![l.val, (inv j).val, 0, 512 * h.val] S1x1x64x512.size inb)).reshape S64x512 hq.numel_eq).read
        (Elt F) (landed P (pr j c))
      = ((View.whole cc0_scratch0).slice (Rect.unit (s := S64x1024) ![0, 512 * h.val] S64x512.size inb')).read (Elt F) (P c) := by
  funext y
  obtain ⟨a, b, rfl⟩ : ∃ (a : Fin 64) (b : Fin 512), y = ix2 a b := ⟨y 0, y 1, eq_ix2 y⟩
  show landed P (pr j c) ((Rect.unit (s := S2x3x64x1024) ![l.val, (inv j).val, 0, 512 * h.val] S1x1x64x512.size inb).emb (Shape.reshapeEquiv _ (ix2 a b)))
    = P c ((Rect.unit (s := S64x1024) ![0, 512 * h.val] S64x512.size inb').emb (ix2 a b))
  rw [reshapeEquiv_ix2_11ab]
  unfold landed
  have e : ∀ (d : Dev nD) (i : S64x1024.Idx), d = c → i = (Rect.unit (s := S64x1024) ![0, 512 * h.val] S64x512.size inb').emb (ix2 a b) →
      (P d : S64x1024.Idx → Elt F .bf16) i = P c ((Rect.unit (s := S64x1024) ![0, 512 * h.val] S64x512.size inb').emb (ix2 a b)) := by
    rintro d i rfl rfl; rfl
  apply e
  · have e1 : (Rect.unit (s := S2x3x64x1024) ![l.val, (inv j).val, 0, 512 * h.val] S1x1x64x512.size inb).emb
        (ix4 (⟨0, Nat.one_pos⟩ : Fin 1) (⟨0, Nat.one_pos⟩ : Fin 1) a b) (1 : Fin 4) = inv j :=
      Fin.ext (by rw [Rect.emb_apply]; show (inv j).val + 1 * 0 = _; omega)
    exact (congrArg (fun z : Fin 3 => pr z (pr j c)) e1).trans (pr_inv j c)
  · funext d
    match d with
    | ⟨0, _⟩ => exact Fin.ext rfl
    | ⟨1, _⟩ => exact Fin.ext rfl

/-- A row block, landed in a half of a slot of the partner in direction `j`. -/
theorem read_landedRows (P : (c : Dev nD) → Buf (Elt F) ((c : Thread nD τ).loc cc0_scratch0)) (c : Dev nD) (h : Fin 2) (j : Fin 3)
    (inb inb') (hq : (Rect.unit (s := S3x16x1024) ![(inv j).val, 0, 512 * h.val] S1x16x512.size inb).shape.Squeezes S16x512) :
    (((View.whole cc0_scratch2).slice (Rect.unit (s := S3x16x1024) ![(inv j).val, 0, 512 * h.val] S1x16x512.size inb)).reshape S16x512 hq.numel_eq).read
        (Elt F) (landedRows P (pr j c))
      = ((View.whole cc0_scratch0).slice (Rect.unit (s := S64x1024) ![16 * (pr j c).val, 512 * h.val] S16x512.size inb')).read (Elt F) (P c) := by
  funext y
  obtain ⟨a, b, rfl⟩ : ∃ (a : Fin 16) (b : Fin 512), y = ix2 a b := ⟨y 0, y 1, eq_ix2 y⟩
  show landedRows P (pr j c) ((Rect.unit (s := S3x16x1024) ![(inv j).val, 0, 512 * h.val] S1x16x512.size inb).emb (Shape.reshapeEquiv _ (ix2 a b)))
    = P c ((Rect.unit (s := S64x1024) ![16 * (pr j c).val, 512 * h.val] S16x512.size inb').emb (ix2 a b))
  rw [reshapeEquiv_ix2_1ab]
  unfold landedRows
  have e : ∀ (d : Dev nD) (i : S64x1024.Idx), d = c → i = (Rect.unit (s := S64x1024) ![16 * (pr j c).val, 512 * h.val] S16x512.size inb').emb (ix2 a b) →
      (P d : S64x1024.Idx → Elt F .bf16) i = P c ((Rect.unit (s := S64x1024) ![16 * (pr j c).val, 512 * h.val] S16x512.size inb').emb (ix2 a b)) := by
    rintro d i rfl rfl; rfl
  apply e
  · have e1 : (Rect.unit (s := S3x16x1024) ![(inv j).val, 0, 512 * h.val] S1x16x512.size inb).emb
        (ix3 (⟨0, Nat.one_pos⟩ : Fin 1) a b) (0 : Fin 3) = inv j :=
      Fin.ext (by rw [Rect.emb_apply]; show (inv j).val + 1 * 0 = _; omega)
    exact (congrArg (fun z : Fin 3 => pr z (pr j c)) e1).trans (pr_inv j c)
  · funext d
    match d with
    | ⟨0, _⟩ =>
      refine Fin.ext ?_
      show 16 * (pr j c).val + (0 + 1 * a.val) = 16 * (pr j c).val + 1 * a.val
      omega
    | ⟨1, _⟩ => exact Fin.ext rfl

/-- A piece of a first weight, landed in its slot; -/
theorem read_piece (c : Dev nD) (l : Fin 3) (s : Fin 2) (k : Fin 4) (M : Memref sig .tc .hbm S1024x2048 .f32)
    (fs : Buf (Elt F) (M.view.loc (c : Thread nD τ))) (hM : M.view.read (Elt F) fs = win m l c) (inb inb')
    (hq : (Rect.unit (s := S2x1024x2048) ![s.val, 256 * k.val, 0] S1x256x2048.size inb).shape.Squeezes S256x2048) :
    (((View.whole cc0_scratch3).slice (Rect.unit (s := S2x1024x2048) ![s.val, 256 * k.val, 0] S1x256x2048.size inb)).reshape S256x2048 hq.numel_eq).read
        (Elt F) (winF m l c)
      = (M.view.slice (Rect.unit (s := S1024x2048) ![256 * k.val, 0] S256x2048.size inb')).read (Elt F) fs := by
  funext y
  obtain ⟨a, b, rfl⟩ : ∃ (a : Fin 256) (b : Fin 2048), y = ix2 a b := ⟨y 0, y 1, eq_ix2 y⟩
  show winF m l c ((Rect.unit (s := S2x1024x2048) ![s.val, 256 * k.val, 0] S1x256x2048.size inb).emb (Shape.reshapeEquiv _ (ix2 a b)))
    = M.view.read (Elt F) fs ((Rect.unit (s := S1024x2048) ![256 * k.val, 0] S256x2048.size inb').emb (ix2 a b))
  rw [reshapeEquiv_ix2_1ab, hM]
  unfold winF
  refine congrArg (win m l c) ?_
  funext d
  match d with
  | ⟨0, _⟩ => exact Fin.ext rfl
  | ⟨1, _⟩ => exact Fin.ext rfl

/-- and of a second one. -/
theorem read_slab (c : Dev nD) (l : Fin 3) (s : Fin 2) (k : Fin 4) (M : Memref sig .tc .hbm S2048x1024 .f32)
    (fs : Buf (Elt F) (M.view.loc (c : Thread nD τ))) (hM : M.view.read (Elt F) fs = wout m l c) (inb inb')
    (hq : (Rect.unit (s := S2x2048x1024) ![s.val, 512 * k.val, 0] S1x512x1024.size inb).shape.Squeezes S512x1024) :
    (((View.whole cc0_scratch4).slice (Rect.unit (s := S2x2048x1024) ![s.val, 512 * k.val, 0] S1x512x1024.size inb)).reshape S512x1024 hq.numel_eq).read
        (Elt F) (woutF m l c)
      = (M.view.slice (Rect.unit (s := S2048x1024) ![512 * k.val, 0] S512x1024.size inb')).read (Elt F) fs := by
  funext y
  obtain ⟨a, b, rfl⟩ : ∃ (a : Fin 512) (b : Fin 1024), y = ix2 a b := ⟨y 0, y 1, eq_ix2 y⟩
  show woutF m l c ((Rect.unit (s := S2x2048x1024) ![s.val, 512 * k.val, 0] S1x512x1024.size inb).emb (Shape.reshapeEquiv _ (ix2 a b)))
    = M.view.read (Elt F) fs ((Rect.unit (s := S2048x1024) ![512 * k.val, 0] S512x1024.size inb').emb (ix2 a b))
  rw [reshapeEquiv_ix2_1ab, hM]
  unfold woutF
  refine congrArg (wout m l c) ?_
  funext d
  match d with
  | ⟨0, _⟩ => exact Fin.ext rfl
  | ⟨1, _⟩ => exact Fin.ext rfl

/-- The halves side by side, read half by half. -/
theorem read_halves (c : Dev nD) (h : Fin 2) (p q : S64x512.Idx → Elt F .bf16) (inb) :
    ((View.whole cc0_scratch0).slice (Rect.unit (s := S64x1024) ![0, 512 * h.val] S64x512.size inb)).read (Elt F) (halves c p q) = ![p, q] h := by
  funext y
  obtain ⟨a, b, rfl⟩ : ∃ (a : Fin 64) (b : Fin 512), y = ix2 a b := ⟨y 0, y 1, eq_ix2 y⟩
  show halves c p q ((Rect.unit (s := S64x1024) ![0, 512 * h.val] S64x512.size inb).emb (ix2 a b)) = _
  have e0 : ((Rect.unit (s := S64x1024) ![0, 512 * h.val] S64x512.size inb).emb (ix2 a b) (0 : Fin 2)).val = a.val := by
    rw [Rect.emb_apply]; show 0 + 1 * a.val = _; omega
  have e1 : ((Rect.unit (s := S64x1024) ![0, 512 * h.val] S64x512.size inb).emb (ix2 a b) (1 : Fin 2)).val = 512 * h.val + b.val := by
    rw [Rect.emb_apply]; show 512 * h.val + 1 * b.val = _; omega
  generalize (Rect.unit (s := S64x1024) ![0, 512 * h.val] S64x512.size inb).emb (ix2 a b) = i at e0 e1
  have hb : b.val < 512 := b.2
  unfold halves
  match h with
  | 0 =>
    rw [dif_pos (by rw [e1]; show 512 * 0 + b.val < 512; omega)]
    refine congrArg p ?_
    funext d
    match d with
    | ⟨0, _⟩ => exact Fin.ext e0
    | ⟨1, _⟩ => exact Fin.ext (e1.trans (by show 512 * 0 + b.val = b.val; omega))
  | 1 =>
    rw [dif_neg (by rw [e1]; show ¬ 512 * 1 + b.val < 512; omega)]
    refine congrArg q ?_
    funext d
    match d with
    | ⟨0, _⟩ => exact Fin.ext e0
    | ⟨1, _⟩ => refine Fin.ext ?_; show (i 1).val - 512 = b.val; rw [e1]; show 512 * 1 + b.val - 512 = _; omega

end Landings

end Cert.KernelIdeal.Mlp
-- ==== Proof.Steps.lean ====
/-
# One effect at a time

For each kind of effect the kernel performs, what it takes and what it gives, in terms of the cells and boxes of
`Base.lean`. Every lemma leaves offsets, semaphores and device numbers free, fixed by equations that hold by computation.
-/
module

public import proofs.«01_k».proof.Proof.Geom

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The program `p` on device `c`, from here to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section
variable {α : Type}

/-! ## The handshake -/

/-- The signal to the partner in direction `j` hands over the landing regions it will write. -/
theorem wp_sig (c : Dev nD) (j : Fin 3) (i : ℕ) {n : Dev nD} {k' : ℕ} {k : PUnit → Prog (TpuEff nD τ sig (Elt F) Λ₀ .tc) α} {Q : α → sProp 𝕄}
    (hn : n = pr j c) (hi : payList.drop i = .sig j :: payList.drop (i + 1)) (hk' : k' = 1) :
    Ctx m K ⊢ iprop(dutyTok ER (cell (pr j c) none) 0 (inv j) -∗ lnds c j -∗ Ow c i -∗ (Ow c (i + 1) -∗ run c (k ⟨⟩) Q)
      -∗ run c (.op (.semSignal (n : Thread nD τ) barS k') k) Q) := by
  subst hn hk'
  iintro #HC Htok Hl Ho Hk
  unfold Ow
  icases Ho with ⟨%W, Ho⟩
  rw [hi]
  iapply (Rounds.wp_signal 𝒱₀ ER (rd m) (c : Thread nD τ) none (dst := (pr j c : Thread nD τ)) (κ := K (pr j c, none)) (r := 0)
      (d := inv j) (by show _ ∈ (rd m).duties (cell (pr j c) none) 0; rw [duties_cell]; exact Finset.mem_univ _)
      (amount_cell m (pr j c) none 0 (inv j)) () (ow c (payList.drop (i + 1))) rfl (W := W)) $$ [Htok Hl Ho]
  · isplitr; · iapply (ctx_cell m K (pr j c) none); iexact HC
    isplitl [Ho]; · iexact Ho
    isplitl [Htok]; · iexact Htok
    isplitl [Hl]
    · rw [show (rd m).payload ((pr j c : Thread nD τ), SemLoc.reg barS) 0 (inv j) = lnds c j from
        (payload_cell m (pr j c) none 0 (inv j)).trans (by show lnds (pr (inv j) (pr j c)) (inv (inv j)) = _; rw [pr_inv, inv_inv])]
      iexact Hl
    · iapply (ctx_reached m K (pr j c) none); iexact HC
  iintro Ho
  iapply Hk
  iexists W
  iexact Ho

theorem lvP_pos (p : Pay) : 0 < lvP p := by
  cases p with
  | sig j => exact Nat.one_pos
  | xfer l h j => show 0 < 2 + l.val; omega

theorem lvS_bar : lvS (.reg barS) = 1 := by
  show (if barS = barS then 1 else 0) = 1
  exact if_pos rfl

/-- The end of a wait on one of the device's cells: the position after the only round closes the cell. -/
theorem close_cell (c : Dev nD) (i : CI) :
    Ctx m K ⊢ iprop(atPos ER (cell c i) (0 + 1) ∅ 0 -∗ |={Set.univ}=> semVal (cell c i) 0) := by
  iintro #HC Hat
  iapply (Rounds.cell_close ER (rd m) (Set.mem_univ (K (c, i))) (fun h => h) (R := 0 + 1) (duties_later m (cell c i)))
  isplitr; · iapply (ctx_cell m K c i); iexact HC
  iexact Hat

/-- The barrier wait takes the three signals: the landing regions on the three partners. -/
theorem wp_barWait (c : Dev nD) {k' : ℕ} {k : PUnit → Prog (TpuEff nD τ sig (Elt F) Λ₀ .tc) α} {Q : α → sProp 𝕄} (hk' : k' = 3) :
    Ctx m K ⊢ iprop(hold c none -∗ Ow c 3 -∗ ((lnds (pr 0 c) 1 ∗ lnds (pr 1 c) 0 ∗ lnds (pr 2 c) 2) -∗ semVal (cell c none) 0 -∗ Ow c 3 -∗ run c (k ⟨⟩) Q)
      -∗ run c (.op (.semWait barS k') k) Q) := by
  subst hk'
  iintro #HC Hh Ho Hk
  unfold Ow hold
  icases Ho with ⟨%W, Ho⟩
  icases Hh with ⟨Hc, Hat⟩
  ihave Hmw := (mayWait c (.reg barS) (payList.drop 3) (fun p hp => by
    rw [lvS_bar]; revert p hp; decide)) $$ []
  · iapply (ctx_lev m K); iexact HC
  iapply (Rounds.wp_wait_rest_token 𝒱₀ ER (rd m) (c : Thread nD τ) none (κ := K (c, none))
      (wpE_semWait_eq 𝒱₀ (c : Thread nD τ) none Set.univ) (Set.mem_univ _) () (O := ow c (payList.drop 3)) (W := W) (R := 0) (m := 0) (T := ∅)
      (by show 0 + 3 = (rd m).expect (cell c none) 0; rw [expect_cell]; rfl)) $$ [Hc Hat Ho Hmw]
  · isplitr; · iapply (ctx_cell m K c none); iexact HC
    isplitl [Hc]; · iexact Hc
    isplitl [Ho]; · iexact Ho
    isplitl [Hmw]; · iexact Hmw
    iexact Hat
  iintro ⟨Ho, Hat, -, Hp⟩
  imod (show Ctx m K ⊢ iprop(atPos ER ((c : Thread nD τ), SemLoc.reg barS) (0 + 1) ∅ 0 -∗ |={Set.univ}=> semVal (cell c none) 0) from
    close_cell m K c none) $$ HC Hat with Hv
  ihave Hp := (show bigSep ((rd m).duties ((c : Thread nD τ), SemLoc.reg barS) 0 \ ∅) (fun d => (rd m).payload ((c : Thread nD τ), SemLoc.reg barS) 0 d)
      ⊢ iprop(lnds (pr 0 c) 1 ∗ lnds (pr 1 c) 0 ∗ lnds (pr 2 c) 2) from
    BIBase.Entails.of_eq ((rest_cell m c none).trans (by
      show bigSep (Finset.univ : Finset (Fin 3)) _ = _
      rw [bigSep_univ_eq_bigSepL [0, 1, 2] (by decide) (by decide), bigSepL_cons_cons, bigSepL_cons_cons, bigSepL_singleton]
      rfl))) $$ Hp
  iapply Hk $$ Hp Hv [Ho]
  iexists _
  iexact Ho

/-- A wait on a send or receive cell: its payload, and the cell back at zero. -/
theorem wp_cellWait (c : Dev nD) (b : Bool) (l : Fin 3) (h : Fin 2) (j : Fin 3) (n : ℕ) {sem : DmaSem sig} {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} {Q : α → sProp 𝕄}
    (hs : csem (some (b, l, h, j)) = .dma sem) (hd : dst.view.dmaCredit = amt l)
    (hl : ∀ p ∈ payList.drop n, lvS (csem (some (b, l, h, j))) < lvP p) :
    Ctx m K ⊢ iprop(hold c (some (b, l, h, j)) -∗ Ow c n
      -∗ (pay m c (some (b, l, h, j)) 0 -∗ semVal (cell c (some (b, l, h, j))) 0 -∗ Ow c n -∗ run c (k ⟨⟩) Q)
      -∗ run c (.op (.waitDma2 sem src dst hsrc hdst) k) Q) := by
  iintro #HC Hh Ho Hk
  unfold Ow hold
  icases Ho with ⟨%W, Ho⟩
  icases Hh with ⟨Hc, Hat⟩
  ihave Hmw := (mayWait c _ (payList.drop n) hl) $$ []
  · iapply (ctx_lev m K); iexact HC
  rw [hs]
  iapply (Rounds.wp_wait_rest_token 𝒱₀ ER (rd m) (c : Thread nD τ) none (κ := K (c, some (b, l, h, j)))
      (wpE_waitDma2_eq 𝒱₀ (c : Thread nD τ) none Set.univ) (Set.mem_univ _) () (O := ow c (payList.drop n)) (W := W) (R := 0) (m := 0) (T := ∅)
      (by rw [← hs]; show 0 + _ = (rd m).expect (cell c _) 0; rw [expect_cell, Nat.zero_add]; exact hd)) $$ [Hc Hat Ho Hmw]
  · rw [hd, ← hs]
    isplitr; · iapply (ctx_cell m K c _); iexact HC
    isplitl [Hc]; · iexact Hc
    isplitl [Ho]; · iexact Ho
    isplitl [Hmw]; · iexact Hmw
    iexact Hat
  rw [← hs]
  iintro ⟨Ho, Hat, -, Hp⟩
  imod (close_cell m K c _) $$ HC Hat with Hv
  ihave Hp := (show bigSep ((rd m).duties (cell c (some (b, l, h, j))) 0 \ ∅) (fun d => (rd m).payload (cell c (some (b, l, h, j))) 0 d)
      ⊢ pay m c (some (b, l, h, j)) 0 from
    BIBase.Entails.of_eq ((rest_cell m c _).trans bigSep_singleton)) $$ Hp
  iapply Hk $$ Hp Hv [Ho]
  iexists _
  iexact Ho

/-! ## The transfers -/

/-- A transfer in direction `j`, from any source whose bytes the landing region's contents `g` read as: its send cell's
    payload gives the source back, the partner's receive cell's hands over the region at `g`. -/
theorem wp_xfer (c : Dev nD) (l : Fin 3) (h : Fin 2) (j : Fin 3) (i : ℕ) {n : Dev nD} {sp sp' : Space} {s : Shape} {e : EltTy}
    {src : Memref sig .tc sp s e} {dst : Memref sig .tc sp' s e} {hsc : dst.view.ref.isScScratch = false} {sS sR : DmaSem sig}
    {hsrc : src.view.WordExact} {hdst : dst.view.WordExact} {hsem : DmaTarget.Typed sp (.dma sR) (.remote (n : Thread nD τ) dst (.dma sS) hsc)}
    {k : PUnit → Prog (TpuEff nD τ sig (Elt F) Λ₀ .tc) α} {Q : α → sProp 𝕄} {q : PosShare TreeShare} {fs : Buf (Elt F) (src.view.loc (c : Thread nD τ))}
    (g : Buf (Elt F) (dst.view.loc (pr j c : Thread nD τ)))
    (hn : n = pr j c) (hi : payList.drop i = .xfer l h j :: payList.drop (i + 1)) (hS : sS = sendS l h j) (hR : sR = recvS l h (inv j))
    (hd : dst.view.amount (.dma sR) = amt l)
    (hpay : (src.view.loc (c : Thread nD τ) ↦[src.view.set]{q} fs : sProp 𝕄) ⊢ sendPay m c l h j)
    (hland : (dst.view.loc (pr j c : Thread nD τ) ↦[dst.view.set]{fullShare} g : sProp 𝕄) ⊢ recvPay m (pr j c) l h (inv j))
    (hread : dst.view.read (Elt F) g = src.view.read (Elt F) fs) :
    Ctx m K ⊢ iprop(sTok c l h j -∗ (src.view.loc (c : Thread nD τ) ↦[src.view.set]{q} fs)
      -∗ (∃ fd, dst.view.loc (pr j c : Thread nD τ) ↦[dst.view.set]{fullShare} fd) -∗ Ow c i
      -∗ (hold c (some (false, l, h, j)) -∗ Ow c (i + 1) -∗ run c (k ⟨⟩) Q)
      -∗ run c (.op (.enqueueDma src (.remote (n : Thread nD τ) dst (.dma sS) hsc) (.dma sR) hsrc hdst hsem) k) Q) := by
  subst hn hS hR
  iintro #HC Ht Hs Hd Ho Hk
  unfold sTok Ow hold
  icases Ho with ⟨%W, Ho⟩
  icases Ht with ⟨Ht1, Ht2, Hat⟩
  icases Hd with ⟨%fd, Hd⟩
  rw [hi]
  iapply (Rounds.wp_send_pointsTo 𝒱₀ ER (rd m) (c : Thread nD τ) none (κ₁ := K (c, some (false, l, h, j)))
      (κ₂ := K (pr j c, some (true, l, h, inv j))) (r₁ := 0) (r₂ := 0) (d₁ := (0 : Fin 3)) (d₂ := (0 : Fin 3)) (fd := fd)
      (by show _ ∈ (rd m).duties (cell c (some (false, l, h, j))) 0; rw [duties_cell]; exact Finset.mem_singleton_self _)
      (by show _ ∈ (rd m).duties (cell (pr j c) (some (true, l, h, inv j))) 0; rw [duties_cell]; exact Finset.mem_singleton_self _)
      () () (amt l) hd (amount_cell m c (some (false, l, h, j)) 0 0) (amount_cell m (pr j c) (some (true, l, h, inv j)) 0 0)
      (ow c (payList.drop (i + 1))) rfl (W := W)
      (by show _ ⊢ (rd m).payload (cell c (some (false, l, h, j))) 0 0; rw [payload_cell]; exact hpay)
      (by
        show _ ⊢ (rd m).payload (cell (pr j c) (some (true, l, h, inv j))) 0 0
        rw [payload_cell, pointsTo_congr (write_of_read dst.view fd g _ hread)]
        exact hland)) $$ [Hs Hd Ho Ht1 Ht2]
  · isplitr; · iapply (ctx_cell m K c (some (false, l, h, j))); iexact HC
    isplitr; · iapply (ctx_cell m K (pr j c) (some (true, l, h, inv j))); iexact HC
    isplitl [Hs]; · iexact Hs
    isplitl [Hd]; · iexact Hd
    isplitl [Ho]; · iexact Ho
    isplitl [Ht1]; · iexact Ht1
    isplitr; · iapply (ctx_reached m K c (some (false, l, h, j))); iexact HC
    isplitl [Ht2]; · iexact Ht2
    iapply (ctx_reached m K (pr j c) (some (true, l, h, inv j))); iexact HC
  iintro ⟨Hc, Ho⟩
  iapply Hk $$ [Hc Hat] [Ho]
  · isplitl [Hc]; · iexact Hc
    iexact Hat
  · iexists W
    iexact Ho

/-- A transfer of a half of the partial buffer (layers 0 and 1). -/
theorem wp_xferHalf (c : Dev nD) (l : Fin 3) (h : Fin 2) (j : Fin 3) (i : ℕ) (hl : l ≠ 2) {n : Dev nD}
    {off off'} {inb} {inb'} {h1 h1'} {hq : (Rect.unit (s := S2x3x64x1024) off S1x1x64x512.size inb).shape.Squeezes S64x512}
    {hsc} {sS sR : DmaSem sig} {hsrc hdst hsem}
    {k : PUnit → Prog (TpuEff nD τ sig (Elt F) Λ₀ .tc) α} {Q : α → sProp 𝕄}
    (hn : n = pr j c) (hi : payList.drop i = .xfer l h j :: payList.drop (i + 1)) (hS : sS = sendS l h j) (hR : sR = recvS l h (inv j))
    (ho : off = ![l.val, (inv j).val, 0, 512 * h.val]) (ho' : off' = ![0, 512 * h.val]) :
    Ctx m K ⊢ iprop(sTok c l h j -∗ pt c cc0_scratch0 (bHalf h) (Ring.shares3 fullShare j) (partF m l c) -∗ lnd (pr j c) l h (inv j) -∗ Ow c i
      -∗ (hold c (some (false, l, h, j)) -∗ Ow c (i + 1) -∗ run c (k ⟨⟩) Q)
      -∗ run c (.op (.enqueueDma ((Memref.whole cc0_scratch0).slice (Rect.unit (s := S64x1024) off' S64x512.size inb') h1')
        (.remote (n : Thread nD τ) (((Memref.whole cc0_scratch1).slice (Rect.unit (s := S2x3x64x1024) off S1x1x64x512.size inb) h1).squeeze S64x512 hq) (.dma sS) hsc)
        (.dma sR) hsrc hdst hsem) k) Q) := by
  subst ho ho'
  have es : ((Memref.whole cc0_scratch0).slice (Rect.unit (s := S64x1024) ![0, 512 * h.val] S64x512.size inb') h1').view.set = bHalf h :=
    slice_whole_set cc0_scratch0 _ _ _
  have ed : (((Memref.whole cc0_scratch1).slice (Rect.unit (s := S2x3x64x1024) ![l.val, (inv j).val, 0, 512 * h.val] S1x1x64x512.size inb) h1).squeeze
      S64x512 hq).view.set = bComm l h (inv j) :=
    (View.set_reshape _ _).trans (slice_whole_set cc0_scratch1 _ _ _)
  have key := wp_xfer m K c l h j i (n := n) (hsc := hsc) (hsrc := hsrc) (hdst := hdst) (hsem := hsem) (k := k) (Q := Q)
    (q := Ring.shares3 fullShare j) (fs := partF m l c) (landed (partF m l) (pr j c)) hn hi hS hR
    (by unfold amt; rw [if_neg hl]; rfl)
    (by rw [es]; unfold sendPay; rw [if_neg hl])
    (by rw [ed]; unfold recvPay; rw [if_neg hl])
    (read_landed (partF m l) c l h j inb inb' hq)
  rw [es, ed] at key
  unfold lnd
  rw [if_neg hl]
  exact key

/-- A transfer of a row block of it (layer 2). -/
theorem wp_xferRows (c : Dev nD) (h : Fin 2) (j : Fin 3) (i : ℕ) {n : Dev nD}
    {off off'} {inb} {inb'} {h1 h1'} {hq : (Rect.unit (s := S3x16x1024) off S1x16x512.size inb).shape.Squeezes S16x512}
    {hsc} {sS sR : DmaSem sig} {hsrc hdst hsem}
    {k : PUnit → Prog (TpuEff nD τ sig (Elt F) Λ₀ .tc) α} {Q : α → sProp 𝕄}
    (hn : n = pr j c) (hi : payList.drop i = .xfer 2 h j :: payList.drop (i + 1)) (hS : sS = sendS 2 h j) (hR : sR = recvS 2 h (inv j))
    (ho : off = ![(inv j).val, 0, 512 * h.val]) (ho' : off' = ![16 * (pr j c).val, 512 * h.val]) :
    Ctx m K ⊢ iprop(sTok c 2 h j -∗ pt c cc0_scratch0 (bBlk h (pr j c)) fullShare (partF m 2 c) -∗ lnd (pr j c) 2 h (inv j) -∗ Ow c i
      -∗ (hold c (some (false, 2, h, j)) -∗ Ow c (i + 1) -∗ run c (k ⟨⟩) Q)
      -∗ run c (.op (.enqueueDma ((Memref.whole cc0_scratch0).slice (Rect.unit (s := S64x1024) off' S16x512.size inb') h1')
        (.remote (n : Thread nD τ) (((Memref.whole cc0_scratch2).slice (Rect.unit (s := S3x16x1024) off S1x16x512.size inb) h1).squeeze S16x512 hq) (.dma sS) hsc)
        (.dma sR) hsrc hdst hsem) k) Q) := by
  subst ho ho'
  have es : ((Memref.whole cc0_scratch0).slice (Rect.unit (s := S64x1024) ![16 * (pr j c).val, 512 * h.val] S16x512.size inb') h1').view.set = bBlk h (pr j c) :=
    slice_whole_set cc0_scratch0 _ _ _
  have ed : (((Memref.whole cc0_scratch2).slice (Rect.unit (s := S3x16x1024) ![(inv j).val, 0, 512 * h.val] S1x16x512.size inb) h1).squeeze
      S16x512 hq).view.set = bRows h (inv j) :=
    (View.set_reshape _ _).trans (slice_whole_set cc0_scratch2 _ _ _)
  have key := wp_xfer m K c 2 h j i (n := n) (hsc := hsc) (hsrc := hsrc) (hdst := hdst) (hsem := hsem) (k := k) (Q := Q)
    (q := fullShare) (fs := partF m 2 c) (landedRows (partF m 2) (pr j c)) hn hi hS hR
    (by unfold amt; rw [if_pos rfl]; rfl)
    (by rw [es]; unfold sendPay; rw [if_pos rfl])
    (by rw [ed]; unfold recvPay; rw [if_pos rfl])
    (read_landedRows (partF m 2) c h j inb inb' hq)
  rw [es, ed] at key
  unfold lnd
  rw [if_pos rfl]
  exact key

/-! ## The weight copies -/

/-- A source a local copy reads, at some share. -/
abbrev src {sp : Space} {s : Shape} {e : EltTy} (c : Dev nD) (M : Memref sig .tc sp s e) (f : Buf (Elt F) (M.view.loc (c : Thread nD τ))) : sProp 𝕄 :=
  iprop(∃ q, M.view.loc (c : Thread nD τ) ↦[M.view.set]{q} f)

/-- A local copy under way that leaves `g` on `S`. -/
abbrev flyTo (c : Dev nD) (b : Ref sig .tc) (S : Finset (Idx ((c : Thread nD τ).loc b))) (g : Buf (Elt F) ((c : Thread nD τ).loc b))
    (sm : DmaSem sig) (N : ℕ) : sProp 𝕄 :=
  Transfers.Flight EC (c : Thread nD τ) (.dma sm) () N (pt c b S fullShare g)

/-- Starting a copy out of a source: the source stays readable. -/
theorem wp_fetch (c : Dev nD) {sp sp' : Space} {s' : Shape} {e : EltTy} {M : Memref sig .tc sp s' e} {r : Rect s'} {h1}
    {dst : Memref sig .tc sp' r.shape e} {sm : DmaSem sig} {hsrc hdst hsem}
    {k : PUnit → Prog (TpuEff nD τ sig (Elt F) Λ₀ .tc) α} {Q : α → sProp 𝕄} {fs : Buf (Elt F) (M.view.loc (c : Thread nD τ))}
    {S : Finset (Idx (dst.view.loc (c : Thread nD τ)))} (g : Buf (Elt F) (dst.view.loc (c : Thread nD τ))) (N : ℕ)
    (hN : dst.view.amount (.dma sm) = N) (hN0 : 0 < N) (hS : dst.view.set = S)
    (hread : dst.view.read (Elt F) g = (M.view.slice r).read (Elt F) fs) :
    (src c M fs : sProp 𝕄) ⊢ iprop((∃ fd, dst.view.loc (c : Thread nD τ) ↦[S]{fullShare} fd) -∗ semVal ((c : Thread nD τ), .dma sm) 0
      -∗ (src c M fs -∗ Transfers.Flight EC (c : Thread nD τ) (.dma sm) () N (dst.view.loc (c : Thread nD τ) ↦[S]{fullShare} g) -∗ run c (k ⟨⟩) Q)
      -∗ run c (.op (.enqueueDma (M.slice r h1) (.here dst) (.dma sm) hsrc hdst hsem) k) Q) := by
  subst hS
  iintro ⟨%q, Hs⟩ ⟨%fd, Hd⟩ Hv Hk
  ihave Hs := (pointsTo_share (PosShare.mem_left_op_right q)).1 $$ Hs
  icases Hs with ⟨Hs, Hs'⟩
  have hsub : (M.view.slice r).set ⊆ M.view.set := by
    rw [View.set_slice]; exact Finset.map_subset_map.mpr (Finset.subset_univ _)
  ihave Hs' := (pointsTo_split_subset hsub).1 $$ Hs'
  icases Hs' with ⟨Hs', -⟩
  iapply (Transfers.wp_dmaLocal EC 𝒱₀ (c : Thread nD τ) none (src := M.slice r h1) (dst := dst) (via := .same) (sm := .dma sm) (fs := fs) (fd := fd)
    () N hN hN0 (Finset.Subset.refl _)) $$ [Hs' Hd Hv]
  · isplitl [Hs']; · iexact Hs'
    isplitl [Hd]; · iexact Hd
    iexact Hv
  iintro Hf
  iapply Hk $$ [Hs] [Hf]
  · iexists q.left
    iexact Hs
  · iapply (Transfers.Flight_mono EC (c : Thread nD τ) ?_) $$ Hf
    iintro ⟨H, -⟩
    ihave H := (BIBase.Entails.of_eq (pointsTo_congr (write_of_read dst.view fd g _ hread))) $$ H
    iexact H

/-- The credit of a piece of a first weight, and of a slab of a second. -/
abbrev nWin : ℕ := Ref.dmaCredit cc0_scratch3 S256x2048 .f32
abbrev nWout : ℕ := Ref.dmaCredit cc0_scratch4 S512x1024 .f32

/-- Piece `k` of layer `l`'s first weight on its way into slot `s`; -/
abbrev winFly (c : Dev nD) (l : Fin 3) (s : Fin 2) (k : Fin 4) : sProp 𝕄 :=
  flyTo c cc0_scratch3 (bPiece s k) (winF m l c) (winS s k) nWin
/-- slab `k` of its second. -/
abbrev woutFly (c : Dev nD) (l : Fin 3) (s : Fin 2) (k : Fin 4) : sProp 𝕄 :=
  flyTo c cc0_scratch4 (bSlab s k) (woutF m l c) (woutS s k) nWout

/-- A piece's place in a slot, free, with its semaphore at zero; holding the piece. -/
def winFree (c : Dev nD) (s : Fin 2) (k : Fin 4) : sProp 𝕄 :=
  iprop(px c cc0_scratch3 (bPiece s k) ∗ semVal ((c : Thread nD τ), .dma (winS s k)) 0)
def woutFree (c : Dev nD) (s : Fin 2) (k : Fin 4) : sProp 𝕄 :=
  iprop(px c cc0_scratch4 (bSlab s k) ∗ semVal ((c : Thread nD τ), .dma (woutS s k)) 0)
def winHas (c : Dev nD) (l : Fin 3) (s : Fin 2) (k : Fin 4) : sProp 𝕄 :=
  iprop(pt c cc0_scratch3 (bPiece s k) fullShare (winF m l c) ∗ semVal ((c : Thread nD τ), .dma (winS s k)) 0)
def woutHas (c : Dev nD) (l : Fin 3) (s : Fin 2) (k : Fin 4) : sProp 𝕄 :=
  iprop(pt c cc0_scratch4 (bSlab s k) fullShare (woutF m l c) ∗ semVal ((c : Thread nD τ), .dma (woutS s k)) 0)

theorem winHas_free (c : Dev nD) (l : Fin 3) (s : Fin 2) (k : Fin 4) : winHas m c l s k ⊢ winFree c s k := by
  unfold winHas winFree
  iintro ⟨H, Hv⟩
  isplitl [H]
  · iexists _; iexact H
  · iexact Hv
theorem woutHas_free (c : Dev nD) (l : Fin 3) (s : Fin 2) (k : Fin 4) : woutHas m c l s k ⊢ woutFree c s k := by
  unfold woutHas woutFree
  iintro ⟨H, Hv⟩
  isplitl [H]
  · iexists _; iexact H
  · iexact Hv

theorem wp_fetchPiece (c : Dev nD) (l : Fin 3) (s : Fin 2) (k : Fin 4) {M : Memref sig .tc .hbm S1024x2048 .f32}
    {fs : Buf (Elt F) (M.view.loc (c : Thread nD τ))} {off off'} {inb} {inb'} {h1 h1'}
    {hq : (Rect.unit (s := S2x1024x2048) off S1x256x2048.size inb).shape.Squeezes S256x2048} {sm : DmaSem sig} {hsrc hdst hsem}
    {kk : PUnit → Prog (TpuEff nD τ sig (Elt F) Λ₀ .tc) α} {Q : α → sProp 𝕄}
    (hM : M.view.read (Elt F) fs = win m l c) (hs : sm = winS s k) (ho : off = ![s.val, 256 * k.val, 0]) (ho' : off' = ![256 * k.val, 0]) :
    (src c M fs : sProp 𝕄) ⊢ iprop(winFree c s k
      -∗ (src c M fs -∗ winFly m c l s k -∗ run c (kk ⟨⟩) Q)
      -∗ run c (.op (.enqueueDma (M.slice (Rect.unit (s := S1024x2048) off' S256x2048.size inb') h1')
        (.here (((Memref.whole cc0_scratch3).slice (Rect.unit (s := S2x1024x2048) off S1x256x2048.size inb) h1).squeeze S256x2048 hq)) (.dma sm) hsrc hdst hsem) kk) Q) := by
  subst hs ho ho'
  have ed : (((Memref.whole cc0_scratch3).slice (Rect.unit (s := S2x1024x2048) ![s.val, 256 * k.val, 0] S1x256x2048.size inb) h1).squeeze S256x2048 hq).view.set = bPiece s k :=
    (View.set_reshape _ _).trans (slice_whole_set cc0_scratch3 _ _ _)
  have key := wp_fetch c (M := M) (h1 := h1') (hsrc := hsrc) (hdst := hdst) (hsem := hsem) (k := kk) (Q := Q) (winF m l c) nWin rfl (by decide)
    ed (read_piece m c l s k M fs hM inb inb' hq)
  iintro Hs Hf Hk
  unfold winFree
  icases Hf with ⟨Hf, Hv⟩
  iapply key $$ Hs Hf Hv Hk

theorem wp_fetchSlab (c : Dev nD) (l : Fin 3) (s : Fin 2) (k : Fin 4) {M : Memref sig .tc .hbm S2048x1024 .f32}
    {fs : Buf (Elt F) (M.view.loc (c : Thread nD τ))} {off off'} {inb} {inb'} {h1 h1'}
    {hq : (Rect.unit (s := S2x2048x1024) off S1x512x1024.size inb).shape.Squeezes S512x1024} {sm : DmaSem sig} {hsrc hdst hsem}
    {kk : PUnit → Prog (TpuEff nD τ sig (Elt F) Λ₀ .tc) α} {Q : α → sProp 𝕄}
    (hM : M.view.read (Elt F) fs = wout m l c) (hs : sm = woutS s k) (ho : off = ![s.val, 512 * k.val, 0]) (ho' : off' = ![512 * k.val, 0]) :
    (src c M fs : sProp 𝕄) ⊢ iprop(woutFree c s k
      -∗ (src c M fs -∗ woutFly m c l s k -∗ run c (kk ⟨⟩) Q)
      -∗ run c (.op (.enqueueDma (M.slice (Rect.unit (s := S2048x1024) off' S512x1024.size inb') h1')
        (.here (((Memref.whole cc0_scratch4).slice (Rect.unit (s := S2x2048x1024) off S1x512x1024.size inb) h1).squeeze S512x1024 hq)) (.dma sm) hsrc hdst hsem) kk) Q) := by
  subst hs ho ho'
  have ed : (((Memref.whole cc0_scratch4).slice (Rect.unit (s := S2x2048x1024) ![s.val, 512 * k.val, 0] S1x512x1024.size inb) h1).squeeze S512x1024 hq).view.set = bSlab s k :=
    (View.set_reshape _ _).trans (slice_whole_set cc0_scratch4 _ _ _)
  have key := wp_fetch c (M := M) (h1 := h1') (hsrc := hsrc) (hdst := hdst) (hsem := hsem) (k := kk) (Q := Q) (woutF m l c) nWout rfl (by decide)
    ed (read_slab m c l s k M fs hM inb inb' hq)
  iintro Hs Hf Hk
  unfold woutFree
  icases Hf with ⟨Hf, Hv⟩
  iapply key $$ Hs Hf Hv Hk

theorem lvS_win (s : Fin 2) (k : Fin 4) : lvS (.dma (winS s k)) = 0 := by revert s k; decide
theorem lvS_wout (s : Fin 2) (k : Fin 4) : lvS (.dma (woutS s k)) = 0 := by revert s k; decide

/-- The wait for such a copy. -/
theorem wp_flyWait (c : Dev nD) (n : ℕ) {b : Ref sig .tc} {S : Finset (Idx ((c : Thread nD τ).loc b))} {g : Buf (Elt F) ((c : Thread nD τ).loc b)}
    {sm sem : DmaSem sig} {N : ℕ} {sp sp' : Space} {s s' : Shape} {e e' : EltTy}
    {srcw : Memref sig .tc sp' s' e'} {dstw : Memref sig .tc sp s e} {hsrc : srcw.view.WordExact} {hdst : dstw.view.WordExact}
    {k : PUnit → Prog (TpuEff nD τ sig (Elt F) Λ₀ .tc) α} {Q : α → sProp 𝕄}
    (hs : sem = sm) (hN : dstw.view.dmaCredit = N) (h0 : lvS (.dma sm) = 0) :
    Ctx m K ⊢ iprop(flyTo c b S g sm N -∗ Ow c n
      -∗ (pt c b S fullShare g -∗ semVal ((c : Thread nD τ), .dma sm) 0 -∗ Ow c n -∗ run c (k ⟨⟩) Q)
      -∗ run c (.op (.waitDma2 sem srcw dstw hsrc hdst) k) Q) := by
  subst hs
  iintro #HC Hf Ho Hk
  unfold Ow
  icases Ho with ⟨%W, Ho⟩
  ihave Hmw := (mayWait c (.dma sem) (payList.drop n) (fun p _ => by rw [h0]; exact lvP_pos p)) $$ []
  · iapply (ctx_lev m K); iexact HC
  iapply (Transfers.wp_waitLocalO EC 𝒱₀ (c : Thread nD τ) none () hN (O := ow c (payList.drop n)) (W := W)) $$ [Hf Ho Hmw]
  · isplitl [Hf]; · iexact Hf
    isplitl [Ho]; · iexact Ho
    iexact Hmw
  iintro ⟨Hp, Hv, Ho⟩
  iapply Hk $$ Hp Hv [Ho]
  iexists _
  iexact Ho

/-- For a piece of a first weight; -/
theorem wp_winWait (c : Dev nD) (n : ℕ) (l : Fin 3) (s : Fin 2) (kk : Fin 4)
    {sem : DmaSem sig} {sp sp' : Space} {sh sh' : Shape} {e e' : EltTy}
    {srcw : Memref sig .tc sp' sh' e'} {dstw : Memref sig .tc sp sh e} {hsrc : srcw.view.WordExact} {hdst : dstw.view.WordExact}
    {k : PUnit → Prog (TpuEff nD τ sig (Elt F) Λ₀ .tc) α} {Q : α → sProp 𝕄}
    (hs : sem = winS s kk) (hN : dstw.view.dmaCredit = nWin) :
    Ctx m K ⊢ iprop(winFly m c l s kk -∗ Ow c n -∗ (winHas m c l s kk -∗ Ow c n -∗ run c (k ⟨⟩) Q)
      -∗ run c (.op (.waitDma2 sem srcw dstw hsrc hdst) k) Q) := by
  iintro #HC Hf Ho Hk
  iapply (wp_flyWait m K c n hs hN (lvS_win s kk)) $$ HC Hf Ho
  iintro Hp Hv Ho
  iapply Hk $$ [Hp Hv] Ho
  unfold winHas
  isplitl [Hp]; · iexact Hp
  iexact Hv

/-- for a slab of a second. -/
theorem wp_woutWait (c : Dev nD) (n : ℕ) (l : Fin 3) (s : Fin 2) (kk : Fin 4)
    {sem : DmaSem sig} {sp sp' : Space} {sh sh' : Shape} {e e' : EltTy}
    {srcw : Memref sig .tc sp' sh' e'} {dstw : Memref sig .tc sp sh e} {hsrc : srcw.view.WordExact} {hdst : dstw.view.WordExact}
    {k : PUnit → Prog (TpuEff nD τ sig (Elt F) Λ₀ .tc) α} {Q : α → sProp 𝕄}
    (hs : sem = woutS s kk) (hN : dstw.view.dmaCredit = nWout) :
    Ctx m K ⊢ iprop(woutFly m c l s kk -∗ Ow c n -∗ (woutHas m c l s kk -∗ Ow c n -∗ run c (k ⟨⟩) Q)
      -∗ run c (.op (.waitDma2 sem srcw dstw hsrc hdst) k) Q) := by
  iintro #HC Hf Ho Hk
  iapply (wp_flyWait m K c n hs hN (lvS_wout s kk)) $$ HC Hf Ho
  iintro Hp Hv Ho
  iapply Hk $$ [Hp Hv] Ho
  unfold woutHas
  isplitl [Hp]; · iexact Hp
  iexact Hv

/-! ## Loads and stores -/

/-- A box inside a box, by its bounds. -/
theorem box_sub {s : Shape} {o z o' z' : Fin s.rank → ℕ} (h : ∀ a, o' a ≤ o a ∧ o a + z a ≤ o' a + z' a) : box o z ⊆ box o' z' := by
  intro i hi
  rw [mem_box] at hi ⊢
  intro a
  have := hi a; have := h a
  omega

theorem load_sub (b : Ref sig .tc) (off size : Fin b.ty.shape.rank → ℕ) (inb) {o' z' : Fin b.ty.shape.rank → ℕ}
    (h : ∀ a, o' a ≤ off a ∧ off a + size a ≤ o' a + z' a) :
    (View.whole b).setOn (Rect.unit (s := b.ty.shape) off size inb).set ⊆ box o' z' := by
  rw [setOn_whole, unit_set]; exact box_sub h

/-- A store through a view leaves any contents that read as what it stored. -/
theorem wp_store_at (c : Dev nD) {cs : CoreSpace} {s : Shape} {e : EltTy} (M : Memref sig .tc cs s e) (r : Rect s) (w : r.shape.Idx → Elt F e) {hx hm}
    {k : PUnit → Prog (TpuEff nD τ sig (Elt F) Λ₀ .tc) α} {Q : α → sProp 𝕄} (f g : Buf (Elt F) ((M.access r).loc (c : Thread nD τ)))
    (hread : (M.access r).read (Elt F) g = w) :
    ((M.access r).loc (c : Thread nD τ) ↦[(M.access r).set]{fullShare} f : sProp 𝕄)
      ⊢ iprop((((M.access r).loc (c : Thread nD τ) ↦[(M.access r).set]{fullShare} g) -∗ run c (k ⟨⟩) Q)
        -∗ run c (.op (.store M r w Finset.univ hx hm) k) Q) := by
  iintro Hp Hk
  iapply (wp_store 𝒱₀ (c : Thread nD τ) none Set.univ (m := M) (r := r) (w := w) (Mk := Finset.univ)
    (S := (M.access r).set) (f := f) (Finset.Subset.refl _)) $$ Hp
  iintro Hp
  iapply Hk
  ihave Hp := (BIBase.Entails.of_eq (pointsTo_congr (q := fullShare) (write_of_read (M.access r) f g w hread))) $$ Hp
  iexact Hp

/-- The store of one half of the partial buffer. -/
theorem wp_stHalf (c : Dev nD) (h : Fin 2) (p q : FVec F S64x512 .bf16) {off} {inb} {w : S64x512.Idx → Elt F .bf16} {hx hm}
    {f : Buf (Elt F) ((c : Thread nD τ).loc cc0_scratch0)}
    {k : PUnit → Prog (TpuEff nD τ sig (Elt F) Λ₀ .tc) α} {Q : α → sProp 𝕄}
    (ho : off = ![0, 512 * h.val]) (hw : w = ![p, q] h) :
    (pt c cc0_scratch0 (bHalf h) fullShare f : sProp 𝕄)
      ⊢ iprop((pt c cc0_scratch0 (bHalf h) fullShare (halves c p q) -∗ run c (k ⟨⟩) Q)
        -∗ run c (.op (.store (Memref.whole cc0_scratch0) (Rect.unit (s := S64x1024) off S64x512.size inb) w Finset.univ hx hm) k) Q) := by
  subst ho hw
  have hset : ((Memref.whole cc0_scratch0).access (Rect.unit (s := S64x1024) ![0, 512 * h.val] S64x512.size inb)).set = bHalf h :=
    slice_whole_set cc0_scratch0 _ _ _
  have key := wp_store_at c (Memref.whole cc0_scratch0) (Rect.unit (s := S64x1024) ![0, 512 * h.val] S64x512.size inb) (![p, q] h)
    (hx := hx) (hm := hm) (k := k) (Q := Q) f (halves c p q) (read_halves c h p q inb)
  rw [hset] at key
  exact key

/-- A load at any share of a set that holds what it reads, the value named. -/
theorem wp_rd (c : Dev nD) {cs : CoreSpace} {s : Shape} {e : EltTy} (M : Memref sig .tc cs s e) {r : LoadRect s} {hl : M.view.LoadsAt r}
    {k : (r.shape.Idx → Elt F e) → Prog (TpuEff nD τ sig (Elt F) Λ₀ .tc) α} {Q : α → sProp 𝕄}
    {S : Finset (Idx (M.view.loc (c : Thread nD τ)))} {q : PosShare TreeShare} {f : Buf (Elt F) (M.view.loc (c : Thread nD τ))}
    {v : r.shape.Idx → Elt F e} (hS : M.view.setOn r.set ⊆ S) (hv : M.view.readAt (Elt F) r f = v) :
    (M.view.loc (c : Thread nD τ) ↦[S]{q} f : sProp 𝕄)
      ⊢ iprop(((M.view.loc (c : Thread nD τ) ↦[S]{q} f) -∗ run c (k v) Q) -∗ run c (.op (.load M r hl) k) Q) := by
  subst hv
  exact wp_load 𝒱₀ (c : Thread nD τ) none Set.univ hS

/-- The load of a piece of the first weight in layer 0; its place is free after it. -/
theorem wp_ldPiece (c : Dev nD) (k : Fin 4) {off} {inb} {hl} {v : S1x256x2048.Idx → Elt F .f32}
    {kk : (S1x256x2048.Idx → Elt F .f32) → Prog (TpuEff nD τ sig (Elt F) Λ₀ .tc) α} {Q : α → sProp 𝕄} (ho : off = ![0, 256 * k.val, 0])
    (hv : winM.view.readAt (Elt F) (Rect.unit (s := S2x1024x2048) off S1x256x2048.size inb).toLoadRect (winF m 0 c) = v) :
    winHas m c 0 0 k ⊢ iprop((winFree c 0 k -∗ run c (kk v) Q)
      -∗ run c (.op (.load winM (Rect.unit (s := S2x1024x2048) off S1x256x2048.size inb).toLoadRect hl) kk) Q) := by
  subst ho
  unfold winHas winFree
  iintro ⟨Hp, Hv⟩ Hk
  iapply (wp_rd c winM (by
    exact (load_sub cc0_scratch3 ![0, 256 * k.val, 0] S1x256x2048.size inb (o' := ![0, 256 * k.val, 0]) (z' := ![1, 256, 2048])
      (fun a => by fin_cases a <;> exact ⟨le_refl _, le_refl _⟩))) hv) $$ Hp
  iintro Hp
  iapply Hk
  isplitl [Hp]
  · iexists _; iexact Hp
  · iexact Hv

/-- The load of a whole slot of the first weight; -/
theorem wp_ldWin (c : Dev nD) (l : Fin 3) (s : Fin 2) {off} {inb} {hl} {v : S1x1024x2048.Idx → Elt F .f32}
    {kk : (S1x1024x2048.Idx → Elt F .f32) → Prog (TpuEff nD τ sig (Elt F) Λ₀ .tc) α} {Q : α → sProp 𝕄} (ho : off = ![s.val, 0, 0])
    (hv : winM.view.readAt (Elt F) (Rect.unit (s := S2x1024x2048) off S1x1024x2048.size inb).toLoadRect (winF m l c) = v) :
    winHas m c l s 0 ⊢ iprop(winHas m c l s 1 -∗ winHas m c l s 2 -∗ winHas m c l s 3
      -∗ (winFree c s 0 -∗ winFree c s 1 -∗ winFree c s 2 -∗ winFree c s 3 -∗ run c (kk v) Q)
      -∗ run c (.op (.load winM (Rect.unit (s := S2x1024x2048) off S1x1024x2048.size inb).toLoadRect hl) kk) Q) := by
  subst ho
  iintro H0 H1 H2 H3 Hk
  unfold winHas
  icases H0 with ⟨H0, Hv0⟩
  icases H1 with ⟨H1, Hv1⟩
  icases H2 with ⟨H2, Hv2⟩
  icases H3 with ⟨H3, Hv3⟩
  ihave Hp := (BIBase.Entails.of_eq (win_pieces c s (winF m l c)).symm) $$ [H0 H1 H2 H3]
  · isplitl [H0]; · iexact H0
    isplitl [H1]; · iexact H1
    isplitl [H2]; · iexact H2
    iexact H3
  iapply (wp_rd c winM (by
    exact (load_sub cc0_scratch3 ![s.val, 0, 0] S1x1024x2048.size inb (o' := ![s.val, 0, 0]) (z' := ![1, 1024, 2048])
      (fun a => by fin_cases a <;> exact ⟨le_refl _, le_refl _⟩))) hv) $$ Hp
  iintro Hp
  ihave Hp := (BIBase.Entails.of_eq (win_pieces c s (winF m l c))) $$ Hp
  icases Hp with ⟨H0, H1, H2, H3⟩
  iapply Hk $$ [H0 Hv0] [H1 Hv1] [H2 Hv2] [H3 Hv3]
  · iapply (winHas_free m c l s 0); unfold winHas; isplitl [H0]; · iexact H0
    iexact Hv0
  · iapply (winHas_free m c l s 1); unfold winHas; isplitl [H1]; · iexact H1
    iexact Hv1
  · iapply (winHas_free m c l s 2); unfold winHas; isplitl [H2]; · iexact H2
    iexact Hv2
  · iapply (winHas_free m c l s 3); unfold winHas; isplitl [H3]; · iexact H3
    iexact Hv3

/-- of the second. -/
theorem wp_ldWout (c : Dev nD) (l : Fin 3) (s : Fin 2) {off} {inb} {hl} {v : S1x2048x1024.Idx → Elt F .f32}
    {kk : (S1x2048x1024.Idx → Elt F .f32) → Prog (TpuEff nD τ sig (Elt F) Λ₀ .tc) α} {Q : α → sProp 𝕄} (ho : off = ![s.val, 0, 0])
    (hv : woutM.view.readAt (Elt F) (Rect.unit (s := S2x2048x1024) off S1x2048x1024.size inb).toLoadRect (woutF m l c) = v) :
    woutHas m c l s 0 ⊢ iprop(woutHas m c l s 1 -∗ woutHas m c l s 2 -∗ woutHas m c l s 3
      -∗ (woutFree c s 0 -∗ woutFree c s 1 -∗ woutFree c s 2 -∗ woutFree c s 3 -∗ run c (kk v) Q)
      -∗ run c (.op (.load woutM (Rect.unit (s := S2x2048x1024) off S1x2048x1024.size inb).toLoadRect hl) kk) Q) := by
  subst ho
  iintro H0 H1 H2 H3 Hk
  unfold woutHas
  icases H0 with ⟨H0, Hv0⟩
  icases H1 with ⟨H1, Hv1⟩
  icases H2 with ⟨H2, Hv2⟩
  icases H3 with ⟨H3, Hv3⟩
  ihave Hp := (BIBase.Entails.of_eq (wout_slabs c s (woutF m l c)).symm) $$ [H0 H1 H2 H3]
  · isplitl [H0]; · iexact H0
    isplitl [H1]; · iexact H1
    isplitl [H2]; · iexact H2
    iexact H3
  iapply (wp_rd c woutM (by
    exact (load_sub cc0_scratch4 ![s.val, 0, 0] S1x2048x1024.size inb (o' := ![s.val, 0, 0]) (z' := ![1, 2048, 1024])
      (fun a => by fin_cases a <;> exact ⟨le_refl _, le_refl _⟩))) hv) $$ Hp
  iintro Hp
  ihave Hp := (BIBase.Entails.of_eq (wout_slabs c s (woutF m l c))) $$ Hp
  icases Hp with ⟨H0, H1, H2, H3⟩
  iapply Hk $$ [H0 Hv0] [H1 Hv1] [H2 Hv2] [H3 Hv3]
  · iapply (woutHas_free m c l s 0); unfold woutHas; isplitl [H0]; · iexact H0
    iexact Hv0
  · iapply (woutHas_free m c l s 1); unfold woutHas; isplitl [H1]; · iexact H1
    iexact Hv1
  · iapply (woutHas_free m c l s 2); unfold woutHas; isplitl [H2]; · iexact H2
    iexact Hv2
  · iapply (woutHas_free m c l s 3); unfold woutHas; isplitl [H3]; · iexact H3
    iexact Hv3

/-! ## The partial buffer -/

/-- A third of a half of the partial buffer, at layer `l`'s contents: what a transfer reads. -/
abbrev third (c : Dev nD) (l : Fin 3) (h : Fin 2) (j : Fin 3) : sProp 𝕄 :=
  pt c cc0_scratch0 (bHalf h) (Ring.shares3 fullShare j) (partF m l c)

/-- Rewriting a half of the partial buffer: the load before the store reads what is not used. -/
theorem wp_half (c : Dev nD) (l : Fin 3) (h : Fin 2) (p q : FVec F S64x512 .bf16) {off off'} {inb inb'} {w : S64x512.Idx → Elt F .bf16} {hl hx hm}
    {k : PUnit → Prog (TpuEff nD τ sig (Elt F) Λ₀ .tc) α} {Q : α → sProp 𝕄}
    (ho : off = ![0, 512 * h.val]) (ho' : off' = ![0, 512 * h.val]) (hw : w = ![p, q] h) (hf : halves c p q = partF m l c) :
    (px c cc0_scratch0 (bHalf h) : sProp 𝕄)
      ⊢ iprop((pt c cc0_scratch0 (bHalf h) fullShare (partF m l c) -∗ run c (k ⟨⟩) Q)
        -∗ run c (.op (.load partM (Rect.unit (s := S64x1024) off' S64x512.size inb').toLoadRect hl) fun _ =>
          .op (.store partM (Rect.unit (s := S64x1024) off S64x512.size inb) w Finset.univ hx hm) k) Q) := by
  subst ho'
  iintro ⟨%f, Hp⟩ Hk
  iapply (wp_rd c partM (by
    exact (load_sub cc0_scratch0 ![0, 512 * h.val] S64x512.size inb' (o' := ![0, 512 * h.val]) (z' := ![64, 512])
      (fun a => by fin_cases a <;> exact ⟨le_refl _, le_refl _⟩))) rfl) $$ Hp
  iintro Hp
  iapply (wp_stHalf c h p q ho hw) $$ Hp
  rw [hf]
  iexact Hk

/-! ## What the waits on the exchange's cells leave -/

/-- A send or receive cell's payload, and the cell at zero. -/
def has (c : Dev nD) (b : Bool) (l : Fin 3) (h : Fin 2) (j : Fin 3) : sProp 𝕄 :=
  iprop(pay m c (some (b, l, h, j)) 0 ∗ semVal (cell c (some (b, l, h, j))) 0)

theorem wp_xWait (c : Dev nD) (b : Bool) (l : Fin 3) (h : Fin 2) (j : Fin 3) (n : ℕ) {sem : DmaSem sig} {sp sp' : Space} {s s' : Shape} {e e' : EltTy}
    {src : Memref sig .tc sp' s' e'} {dst : Memref sig .tc sp s e} {hsrc : src.view.WordExact} {hdst : dst.view.WordExact}
    {k : PUnit → Prog (TpuEff nD τ sig (Elt F) Λ₀ .tc) α} {Q : α → sProp 𝕄}
    (hs : csem (some (b, l, h, j)) = .dma sem) (hd : dst.view.dmaCredit = amt l)
    (hl : ∀ p ∈ payList.drop n, lvS (csem (some (b, l, h, j))) < lvP p) :
    Ctx m K ⊢ iprop(hold c (some (b, l, h, j)) -∗ Ow c n -∗ (has m c b l h j -∗ Ow c n -∗ run c (k ⟨⟩) Q)
      -∗ run c (.op (.waitDma2 sem src dst hsrc hdst) k) Q) := by
  iintro #HC Hh Ho Hk
  iapply (wp_cellWait m K c b l h j n hs hd hl) $$ HC Hh Ho
  iintro Hp Hv Ho
  iapply Hk $$ [Hp Hv] Ho
  unfold has
  isplitl [Hp]; · iexact Hp
  iexact Hv

/-- The load of a half of a landing slot (layers 0 and 1). -/
theorem wp_ldComm (c : Dev nD) (l : Fin 3) (h : Fin 2) (s : Fin 3) (h2 : l ≠ 2) {off} {inb} {hl} {v : S1x1x64x512.Idx → Elt F .bf16}
    {kk : (S1x1x64x512.Idx → Elt F .bf16) → Prog (TpuEff nD τ sig (Elt F) Λ₀ .tc) α} {Q : α → sProp 𝕄}
    (ho : off = ![l.val, s.val, 0, 512 * h.val])
    (hv : commM.view.readAt (Elt F) (Rect.unit (s := S2x3x64x1024) off S1x1x64x512.size inb).toLoadRect (landed (partF m l) c) = v) :
    has m c true l h s ⊢ iprop((has m c true l h s -∗ run c (kk v) Q)
      -∗ run c (.op (.load commM (Rect.unit (s := S2x3x64x1024) off S1x1x64x512.size inb).toLoadRect hl) kk) Q) := by
  subst ho
  unfold has
  rw [show pay m c (some (true, l, h, s)) 0 = pt c cc0_scratch1 (bComm l h s) fullShare (landed (partF m l) c) from if_neg h2]
  iintro ⟨Hp, Hv⟩ Hk
  iapply (wp_rd c commM (by
    exact (load_sub cc0_scratch1 ![l.val, s.val, 0, 512 * h.val] S1x1x64x512.size inb (o' := ![l.val, s.val, 0, 512 * h.val]) (z' := ![1, 1, 64, 512])
      (fun a => by fin_cases a <;> exact ⟨le_refl _, le_refl _⟩))) hv) $$ Hp
  iintro Hp
  iapply Hk
  isplitl [Hp]; · iexact Hp
  iexact Hv

/-- The three thirds of a half back: the half, to be rewritten, and the send cells at zero. -/
theorem half_back (c : Dev nD) (l : Fin 3) (h : Fin 2) (h2 : l ≠ 2) :
    has m c false l h 0 ⊢ iprop(has m c false l h 1 -∗ has m c false l h 2 -∗ (px c cc0_scratch0 (bHalf h)
      ∗ semVal (cell c (some (false, l, h, 0))) 0 ∗ semVal (cell c (some (false, l, h, 1))) 0 ∗ semVal (cell c (some (false, l, h, 2))) 0)) := by
  unfold has
  rw [show pay m c (some (false, l, h, 0)) 0 = third m c l h 0 from if_neg h2, show pay m c (some (false, l, h, 1)) 0 = third m c l h 1 from if_neg h2,
    show pay m c (some (false, l, h, 2)) 0 = third m c l h 2 from if_neg h2]
  iintro ⟨H0, Hv0⟩ ⟨H1, Hv1⟩ ⟨H2, Hv2⟩
  isplitl [H0 H1 H2]
  · iexists _
    iapply (half_thirds c h (partF m l c)).2
    isplitl [H0]; · iexact H0
    isplitl [H1]; · iexact H1
    iexact H2
  · isplitl [Hv0]; · iexact Hv0
    isplitl [Hv1]; · iexact Hv1
    iexact Hv2

/-- The device a chain of word operations computes. -/
theorem dev_eq (j : Fin 3) (c : Dev nD) {x : ℕ} {hx : x < nD} (h : x = (c.val + ![3, 1, 2] j) % 4) : (⟨x, hx⟩ : Dev nD) = pr j c := Fin.ext h

end

end Cert.KernelIdeal.Mlp
-- ==== Proof.PartsA.lean ====
/-
# The body's pieces, first group: the first fetches, the handshake, layer 0's first product
-/
module

public import proofs.«01_k».proof.Proof.Steps

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- A piece of the body at the buffers the launch gives it. -/
abbrev onBufs {β : Type 1} (f : (arg0 : Memref sig .tc .vmem S64x1024 .f32) → (harg0 : arg0.IsWhole) → (arg1 : Memref sig .tc .hbm S1024x2048 .f32) → (harg1 : arg1.IsWhole) → (arg2 : Memref sig .tc .hbm S2048x1024 .f32) → (harg2 : arg2.IsWhole) → (arg3 : Memref sig .tc .hbm S1024x2048 .f32) → (harg3 : arg3.IsWhole) → (arg4 : Memref sig .tc .hbm S2048x1024 .f32) → (harg4 : arg4.IsWhole) → (arg5 : Memref sig .tc .hbm S1024x2048 .f32) → (harg5 : arg5.IsWhole) → (arg6 : Memref sig .tc .hbm S2048x1024 .f32) → (harg6 : arg6.IsWhole) → (arg7 : Memref sig .tc .vmem S16x1024 .f32) → (harg7 : arg7.IsWhole) → (arg8 : Memref sig .tc .vmem S64x1024 .bf16) → (harg8 : arg8.IsWhole) → (arg9 : Memref sig .tc .vmem S2x3x64x1024 .bf16) → (harg9 : arg9.IsWhole) → (arg10 : Memref sig .tc .vmem S3x16x1024 .bf16) → (harg10 : arg10.IsWhole) → (arg11 : Memref sig .tc .vmem S2x1024x2048 .f32) → (harg11 : arg11.IsWhole) → (arg12 : Memref sig .tc .vmem S2x2048x1024 .f32) → (harg12 : arg12.IsWhole) → (arg13 : DmaSems sig S3x2x3) → (arg14 : DmaSems sig S3x2x3) → (arg15 : DmaSems sig S2x4) → (arg16 : DmaSems sig S2x4) → β) : β :=
  f (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

abbrev src1 (c : Dev nD) : sProp 𝕄 := src c (Memref.whole main_arg1) (m ((c : Thread nD τ).loc main_arg1))
abbrev src2 (c : Dev nD) : sProp 𝕄 := src c (Memref.whole main_arg2) (m ((c : Thread nD τ).loc main_arg2))
abbrev src3 (c : Dev nD) : sProp 𝕄 := src c (Memref.whole main_arg3) (m ((c : Thread nD τ).loc main_arg3))
abbrev src4 (c : Dev nD) : sProp 𝕄 := src c (Memref.whole main_arg4) (m ((c : Thread nD τ).loc main_arg4))
abbrev src5 (c : Dev nD) : sProp 𝕄 := src c (Memref.whole main_arg5) (m ((c : Thread nD τ).loc main_arg5))
abbrev src6 (c : Dev nD) : sProp 𝕄 := src c (Memref.whole main_arg6) (m ((c : Thread nD τ).loc main_arg6))

theorem body1 (c : Dev nD) {Q : _ → sProp 𝕄} :
    src1 m c ⊢ iprop(winFree c 0 0 -∗ winFree c 0 1 -∗ winFree c 0 2
      -∗ (src1 m c -∗ winFly m c 0 0 0 -∗ winFly m c 0 0 1 -∗ winFly m c 0 0 2 -∗ ∀ a b d e, Q ⟨c, a, b, d, e⟩)
      -∗ run c (onBufs (k0_part1 (F := F))) Q) := by
  rw [k0_part1_eq_skeleton]; unfold onBufs k0_part1_skel
  simp only [Prog.lift, Prog.bind_op, Prog.bind_ret, Prog.pure_eq_ret, wp_deviceId]
  iintro Hs H0 H1 H2 Hk
  iapply (wp_fetchPiece m c 0 0 0 rfl rfl rfl rfl) $$ Hs H0
  iintro Hs H0
  iapply (wp_fetchPiece m c 0 0 1 rfl rfl rfl rfl) $$ Hs H1
  iintro Hs H1
  iapply (wp_fetchPiece m c 0 0 2 rfl rfl rfl rfl) $$ Hs H2
  iintro Hs H2
  iapply le_wp_ret
  iapply Hk $$ Hs H0 H1 H2

theorem body2 (c : Dev nD) {Q : _ → sProp 𝕄} :
    src1 m c ⊢ iprop(src2 m c -∗ winFree c 0 3 -∗ woutFree c 0 0 -∗ woutFree c 0 1 -∗ woutFree c 0 2
      -∗ (src2 m c -∗ winFly m c 0 0 3 -∗ woutFly m c 0 0 0 -∗ woutFly m c 0 0 1 -∗ woutFly m c 0 0 2 -∗ Q ⟨⟩)
      -∗ run c (onBufs (k0_part2 (F := F))) Q) := by
  rw [k0_part2_eq_skeleton]; unfold onBufs k0_part2_skel
  simp only [Prog.lift, Prog.bind_op, Prog.bind_ret, Prog.pure_eq_ret]
  iintro Hs Ht H3 H0 H1 H2 Hk
  iapply (wp_fetchPiece m c 0 0 3 rfl rfl rfl rfl) $$ Hs H3
  iintro Hs H3
  iapply (wp_fetchSlab m c 0 0 0 rfl rfl rfl rfl) $$ Ht H0
  iintro Ht H0
  iapply (wp_fetchSlab m c 0 0 1 rfl rfl rfl rfl) $$ Ht H1
  iintro Ht H1
  iapply (wp_fetchSlab m c 0 0 2 rfl rfl rfl rfl) $$ Ht H2
  iintro Ht H2
  iapply le_wp_ret
  iapply Hk $$ Ht H3 H0 H1 H2

/-- What a signal takes: the duty's token at the device it goes to, and the landing places it offers. -/
abbrev sigKit (c : Dev nD) (j : Fin 3) : sProp 𝕄 := iprop(dutyTok ER (cell (pr j c) none) 0 (inv j) ∗ lnds c j)

theorem body3 (c : Dev nD) (v5 v7 v9 : BitVec 32) {Q : _ → sProp 𝕄} :
    Ctx m K ⊢ iprop(src2 m c -∗ woutFree c 0 3 -∗ sigKit c 0 -∗ sigKit c 1 -∗ sigKit c 2 -∗ hold c none -∗ Ow c 0
      -∗ (((c : Thread nD τ).loc cc0_stg0_0) ↦{fullShare} xst m c) -∗ winFly m c 0 0 0
      -∗ (woutFly m c 0 0 3 -∗ (lnds (pr 0 c) 1 ∗ lnds (pr 1 c) 0 ∗ lnds (pr 2 c) 2) -∗ semVal (cell c none) 0 -∗ Ow c 3
        -∗ (((c : Thread nD τ).loc cc0_stg0_0) ↦{fullShare} xst m c) -∗ winFree c 0 0 -∗ Q ⟨x0 m c, acc0 m c⟩)
      -∗ run c (onBufs (k0_part3 (F := F)) c v5 v7 v9) Q) := by
  rw [k0_part3_eq_skeleton]; unfold onBufs k0_part3_skel
  simp only [semSignalWord, semWaitWord, Prog.lift, Prog.bind_op, Prog.bind_ret, Prog.pure_eq_ret]
  iintro #HC Hs H3 ⟨T0, L0⟩ ⟨T1, L1⟩ ⟨T2, L2⟩ Hh Ho Hx Hw Hk
  iapply (wp_fetchSlab m c 0 0 3 rfl rfl rfl rfl) $$ Hs H3
  iintro Hs H3
  iapply (wp_sig m K c 0 0 (dev_eq 0 c (k0_dev1_eq c)) rfl rfl) $$ HC T0 L0 Ho
  iintro Ho
  iapply (wp_sig m K c 1 1 (dev_eq 1 c (k0_dev2_eq c)) rfl rfl) $$ HC T1 L1 Ho
  iintro Ho
  iapply (wp_sig m K c 2 2 (dev_eq 2 c (k0_dev3_eq c)) rfl rfl) $$ HC T2 L2 Ho
  iintro Ho
  iapply (wp_barWait m K c rfl) $$ HC Hh Ho
  iintro Hl Hv Ho
  iapply (wp_rd c xM (v := rdX c (xst m c)) (Finset.subset_univ _) rfl) $$ Hx
  iintro Hx
  iapply (wp_winWait m K c 3 0 0 0 rfl rfl) $$ HC Hw Ho
  iintro Hw Ho
  iapply (wp_ldPiece m c 0 (v := rdPiece c 0 (winF m 0 c)) rfl rfl) $$ Hw
  iintro Hw
  rw [show k0_pay1 (rdX c (xst m c)) = x0 m c from rfl, show k0_pay2 (rdX c (xst m c)) (rdPiece c 0 (winF m 0 c)) = acc0 m c from rfl]
  iapply le_wp_ret
  iapply Hk $$ H3 Hl Hv Ho Hx Hw

theorem body4 (c : Dev nD) {Q : _ → sProp 𝕄} :
    Ctx m K ⊢ iprop(winFly m c 0 0 1 -∗ winFly m c 0 0 2 -∗ winFly m c 0 0 3 -∗ Ow c 3
      -∗ (winFree c 0 1 -∗ winFree c 0 2 -∗ winFree c 0 3 -∗ Ow c 3
        -∗ Q ⟨k0_pay3 (x0 m c) (acc0 m c) (rdPiece c 1 (winF m 0 c)) (rdPiece c 2 (winF m 0 c)), k0_pay4 (x0 m c), k0_pay5 (rdPiece c 3 (winF m 0 c)), zW⟩)
      -∗ run c (onBufs (k0_part4 (F := F)) (x0 m c) (acc0 m c)) Q) := by
  rw [k0_part4_eq_skeleton]; unfold onBufs k0_part4_skel
  simp only [Prog.lift, Prog.bind_op, Prog.bind_ret, Prog.pure_eq_ret]
  iintro #HC H1 H2 H3 Ho Hk
  iapply (wp_winWait m K c 3 0 0 1 rfl rfl) $$ HC H1 Ho
  iintro H1 Ho
  iapply (wp_ldPiece m c 1 (v := rdPiece c 1 (winF m 0 c)) rfl rfl) $$ H1
  iintro H1
  iapply (wp_winWait m K c 3 0 0 2 rfl rfl) $$ HC H2 Ho
  iintro H2 Ho
  iapply (wp_ldPiece m c 2 (v := rdPiece c 2 (winF m 0 c)) rfl rfl) $$ H2
  iintro H2
  iapply (wp_winWait m K c 3 0 0 3 rfl rfl) $$ HC H3 Ho
  iintro H3 Ho
  iapply (wp_ldPiece m c 3 (v := rdPiece c 3 (winF m 0 c)) rfl rfl) $$ H3
  iintro H3
  rw [show (constant S64x2048 .f32 0x00000000#32 : FVec F S64x2048 .f32) = zW from rfl]
  iapply le_wp_ret
  iapply Hk $$ H1 H2 H3 Ho

theorem body5 (c : Dev nD) (v91 v97 v100 cst) {Q : _ → sProp 𝕄} :
    Ctx m K ⊢ iprop(woutFly m c 0 0 0 -∗ woutFly m c 0 0 1 -∗ woutFly m c 0 0 2 -∗ woutFly m c 0 0 3 -∗ Ow c 3
      -∗ (woutHas m c 0 0 0 -∗ woutHas m c 0 0 1 -∗ woutHas m c 0 0 2 -∗ woutHas m c 0 0 3 -∗ Ow c 3 -∗ Q (k0_pay6 v91 v97 v100 cst))
      -∗ run c (onBufs (k0_part5 (F := F)) v91 v97 v100 cst) Q) := by
  rw [k0_part5_eq_skeleton]; unfold onBufs k0_part5_skel
  simp only [Prog.lift, Prog.bind_op, Prog.bind_ret, Prog.pure_eq_ret]
  iintro #HC H0 H1 H2 H3 Ho Hk
  iapply (wp_woutWait m K c 3 0 0 0 rfl rfl) $$ HC H0 Ho
  iintro H0 Ho
  iapply (wp_woutWait m K c 3 0 0 1 rfl rfl) $$ HC H1 Ho
  iintro H1 Ho
  iapply (wp_woutWait m K c 3 0 0 2 rfl rfl) $$ HC H2 Ho
  iintro H2 Ho
  iapply (wp_woutWait m K c 3 0 0 3 rfl rfl) $$ HC H3 Ho
  iintro H3 Ho
  iapply le_wp_ret
  iapply Hk $$ H0 H1 H2 H3 Ho

theorem body6 (c : Dev nD) {Q : _ → sProp 𝕄} :
    src3 m c ⊢ iprop(src4 m c -∗ winFree c 1 0 -∗ winFree c 1 1 -∗ winFree c 1 2 -∗ winFree c 1 3 -∗ woutFree c 1 0
      -∗ (src4 m c -∗ winFly m c 1 1 0 -∗ winFly m c 1 1 1 -∗ winFly m c 1 1 2 -∗ winFly m c 1 1 3 -∗ woutFly m c 1 1 0 -∗ Q ⟨⟩)
      -∗ run c (onBufs (k0_part6 (F := F))) Q) := by
  rw [k0_part6_eq_skeleton]; unfold onBufs k0_part6_skel
  simp only [Prog.lift, Prog.bind_op, Prog.bind_ret, Prog.pure_eq_ret]
  iintro Hs Ht H0 H1 H2 H3 G0 Hk
  iapply (wp_fetchPiece m c 1 1 0 rfl rfl rfl rfl) $$ Hs H0
  iintro Hs H0
  iapply (wp_fetchPiece m c 1 1 1 rfl rfl rfl rfl) $$ Hs H1
  iintro Hs H1
  iapply (wp_fetchPiece m c 1 1 2 rfl rfl rfl rfl) $$ Hs H2
  iintro Hs H2
  iapply (wp_fetchPiece m c 1 1 3 rfl rfl rfl rfl) $$ Hs H3
  iintro Hs H3
  iapply (wp_fetchSlab m c 1 1 0 rfl rfl rfl rfl) $$ Ht G0
  iintro Ht G0
  iapply le_wp_ret
  iapply Hk $$ Ht H0 H1 H2 H3 G0

theorem body7 (c : Dev nD) {Q : _ → sProp 𝕄} :
    src4 m c ⊢ iprop(woutFree c 1 1 -∗ woutFree c 1 2 -∗ woutFree c 1 3
      -∗ woutHas m c 0 0 0 -∗ woutHas m c 0 0 1 -∗ woutHas m c 0 0 2 -∗ woutHas m c 0 0 3 -∗ px c cc0_scratch0 (bHalf 0)
      -∗ (woutFly m c 1 1 1 -∗ woutFly m c 1 1 2 -∗ woutFly m c 1 1 3
        -∗ woutFree c 0 0 -∗ woutFree c 0 1 -∗ woutFree c 0 2 -∗ woutFree c 0 3 -∗ third m c 0 0 0 -∗ third m c 0 0 1 -∗ third m c 0 0 2
        -∗ Q ⟨act0 m c, wo0 m c, own0a m c⟩)
      -∗ run c (onBufs (k0_part7 (F := F)) (hid0 m c)) Q) := by
  rw [k0_part7_eq_skeleton]; unfold onBufs k0_part7_skel
  simp only [Prog.lift, Prog.bind_op, Prog.bind_ret, Prog.pure_eq_ret]
  iintro Ht G1 G2 G3 H0 H1 H2 H3 Hp Hk
  iapply (wp_fetchSlab m c 1 1 1 rfl rfl rfl rfl) $$ Ht G1
  iintro Ht G1
  iapply (wp_fetchSlab m c 1 1 2 rfl rfl rfl rfl) $$ Ht G2
  iintro Ht G2
  iapply (wp_fetchSlab m c 1 1 3 rfl rfl rfl rfl) $$ Ht G3
  iintro Ht G3
  iapply (wp_ldWout m c 0 0 (v := rdWout c 0 (woutF m 0 c)) rfl rfl) $$ H0 H1 H2 H3
  iintro H0 H1 H2 H3
  iapply (wp_half m c 0 0 (k0_pay10 (hid0 m c) (rdWout c 0 (woutF m 0 c))) (k0_pay12 (act0 m c) (wo0 m c)) rfl rfl rfl rfl) $$ Hp
  iintro Hp
  ihave Hp := (half_thirds c 0 (partF m 0 c)).1 $$ Hp
  icases Hp with ⟨P0, P1, P2⟩
  rw [show k0_pay7 (hid0 m c) = act0 m c from rfl, show k0_pay8 (rdWout c 0 (woutF m 0 c)) = wo0 m c from rfl, show k0_pay9 (hid0 m c) (rdWout c 0 (woutF m 0 c)) = own0a m c from rfl]
  iapply le_wp_ret
  iapply Hk $$ G1 G2 G3 H0 H1 H2 H3 P0 P1 P2

end Cert.KernelIdeal.Mlp
-- ==== Proof.PartsB.lean ====
/-
# The body's pieces, second group: the exchanges of layers 0 and 1
-/
module

public import proofs.«01_k».proof.Proof.PartsA

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- What a transfer takes besides its source. -/
abbrev xkit (c : Dev nD) (l : Fin 3) (h : Fin 2) (j : Fin 3) : sProp 𝕄 := iprop(sTok c l h j ∗ lnd (pr j c) l h (inv j))
/-- The right to wait for a transfer sent, -/
abbrev sent (c : Dev nD) (l : Fin 3) (h : Fin 2) (j : Fin 3) : sProp 𝕄 := hold c (some (false, l, h, j))
/-- and for one to arrive. -/
abbrev due (c : Dev nD) (l : Fin 3) (h : Fin 2) (s : Fin 3) : sProp 𝕄 := hold c (some (true, l, h, s))

/-! ## Layer 0's exchange -/

theorem body8 (c : Dev nD) (v5 v7 v9 : BitVec 32) {Q : _ → sProp 𝕄} :
    Ctx m K ⊢ iprop(xkit c 0 0 0 -∗ xkit c 0 0 1 -∗ third m c 0 0 0 -∗ third m c 0 0 1 -∗ Ow c 3
      -∗ (sent c 0 0 0 -∗ sent c 0 0 1 -∗ Ow c 5 -∗ Q ⟨⟩)
      -∗ run c (onBufs (k0_part8 (F := F)) c v5 v7 v9) Q) := by
  rw [k0_part8_eq_skeleton]; unfold onBufs k0_part8_skel
  simp only [Prog.lift, Prog.bind_op, Prog.bind_ret, Prog.pure_eq_ret]
  iintro #HC ⟨T0, L0⟩ ⟨T1, L1⟩ P0 P1 Ho Hk
  iapply (wp_xferHalf m K c 0 0 0 3 (by decide) (dev_eq 0 c (k0_dev4_eq c)) rfl rfl rfl rfl rfl) $$ HC T0 P0 L0 Ho
  iintro H0 Ho
  iapply (wp_xferHalf m K c 0 0 1 4 (by decide) (dev_eq 1 c (k0_dev5_eq c)) rfl rfl rfl rfl rfl) $$ HC T1 P1 L1 Ho
  iintro H1 Ho
  iapply le_wp_ret
  iapply Hk $$ H0 H1 Ho

theorem body9 (c : Dev nD) (v5 v7 : BitVec 32) {Q : _ → sProp 𝕄} :
    Ctx m K ⊢ iprop(xkit c 0 0 2 -∗ xkit c 0 1 0 -∗ third m c 0 0 2 -∗ px c cc0_scratch0 (bHalf 1) -∗ Ow c 5
      -∗ (sent c 0 0 2 -∗ sent c 0 1 0 -∗ third m c 0 1 1 -∗ third m c 0 1 2 -∗ Ow c 7 -∗ Q (own0b m c))
      -∗ run c (onBufs (k0_part9 (F := F)) c v5 v7 (act0 m c) (wo0 m c)) Q) := by
  rw [k0_part9_eq_skeleton]; unfold onBufs k0_part9_skel
  simp only [Prog.lift, Prog.bind_op, Prog.bind_ret, Prog.pure_eq_ret]
  iintro #HC ⟨T2, L2⟩ ⟨T0, L0⟩ P2 Hp Ho Hk
  iapply (wp_xferHalf m K c 0 0 2 5 (by decide) (dev_eq 2 c (k0_dev6_eq c)) rfl rfl rfl rfl rfl) $$ HC T2 P2 L2 Ho
  iintro H2 Ho
  iapply (wp_half m c 0 1 (k0_pay10 (hid0 m c) (rdWout c 0 (woutF m 0 c))) (k0_pay12 (act0 m c) (wo0 m c)) rfl rfl rfl rfl) $$ Hp
  iintro Hp
  ihave Hp := (half_thirds c 1 (partF m 0 c)).1 $$ Hp
  icases Hp with ⟨P0, P1, P2⟩
  iapply (wp_xferHalf m K c 0 1 0 6 (by decide) (dev_eq 0 c (k0_dev7_eq c)) rfl rfl rfl rfl rfl) $$ HC T0 P0 L0 Ho
  iintro H0 Ho
  rw [show k0_pay11 (act0 m c) (wo0 m c) = own0b m c from rfl]
  iapply le_wp_ret
  iapply Hk $$ H2 H0 P1 P2 Ho

theorem body10 (c : Dev nD) (v5 v9 : BitVec 32) {Q : _ → sProp 𝕄} :
    Ctx m K ⊢ iprop(xkit c 0 1 1 -∗ xkit c 0 1 2 -∗ third m c 0 1 1 -∗ third m c 0 1 2 -∗ due c 0 0 1 -∗ Ow c 7
      -∗ (sent c 0 1 1 -∗ sent c 0 1 2 -∗ has m c true 0 0 1 -∗ Ow c 9 -∗ Q ⟨⟩)
      -∗ run c (onBufs (k0_part10 (F := F)) c v5 v9) Q) := by
  rw [k0_part10_eq_skeleton]; unfold onBufs k0_part10_skel
  simp only [Prog.lift, Prog.bind_op, Prog.bind_ret, Prog.pure_eq_ret]
  iintro #HC ⟨T1, L1⟩ ⟨T2, L2⟩ P1 P2 Hd Ho Hk
  iapply (wp_xferHalf m K c 0 1 1 7 (by decide) (dev_eq 1 c (k0_dev8_eq c)) rfl rfl rfl rfl rfl) $$ HC T1 P1 L1 Ho
  iintro H1 Ho
  iapply (wp_xferHalf m K c 0 1 2 8 (by decide) (dev_eq 2 c (k0_dev9_eq c)) rfl rfl rfl rfl rfl) $$ HC T2 P2 L2 Ho
  iintro H2 Ho
  iapply (wp_xWait m K c true 0 0 1 9 rfl rfl (by decide)) $$ HC Hd Ho
  iintro Hd Ho
  iapply le_wp_ret
  iapply Hk $$ H1 H2 Hd Ho

theorem body11 (c : Dev nD) (v7 v9 : BitVec 32) {Q : _ → sProp 𝕄} :
    Ctx m K ⊢ iprop(due c 0 0 0 -∗ has m c true 0 0 1 -∗ due c 0 0 2 -∗ Ow c 9
      -∗ (has m c true 0 0 0 -∗ has m c true 0 0 1 -∗ has m c true 0 0 2 -∗ Ow c 9
        -∗ Q ⟨k0_pay13 (own0a m c) (got0 m c 0 0) (got0 m c 0 1), k0_pay14 (got0 m c 0 2)⟩)
      -∗ run c (onBufs (k0_part11 (F := F)) v7 v9 (own0a m c)) Q) := by
  rw [k0_part11_eq_skeleton]; unfold onBufs k0_part11_skel
  simp only [Prog.lift, Prog.bind_op, Prog.bind_ret, Prog.pure_eq_ret]
  iintro #HC H0 H1 H2 Ho Hk
  iapply (wp_xWait m K c true 0 0 0 9 rfl rfl (by decide)) $$ HC H0 Ho
  iintro H0 Ho
  iapply (wp_xWait m K c true 0 0 2 9 rfl rfl (by decide)) $$ HC H2 Ho
  iintro H2 Ho
  iapply (wp_ldComm m c 0 0 0 (by decide) (v := got0 m c 0 0) rfl rfl) $$ H0
  iintro H0
  iapply (wp_ldComm m c 0 0 1 (by decide) (v := got0 m c 0 1) rfl rfl) $$ H1
  iintro H1
  iapply (wp_ldComm m c 0 0 2 (by decide) (v := got0 m c 0 2) rfl rfl) $$ H2
  iintro H2
  iapply le_wp_ret
  iapply Hk $$ H0 H1 H2 Ho

theorem body12 (c : Dev nD) (v5 v7 v9 : BitVec 32) (v263 v265) {Q : _ → sProp 𝕄} :
    Ctx m K ⊢ iprop(due c 0 1 0 -∗ due c 0 1 1 -∗ Ow c 9
      -∗ (has m c true 0 1 0 -∗ has m c true 0 1 1 -∗ Ow c 9 -∗ Q (k0_pay15 v263 v265))
      -∗ run c (onBufs (k0_part12 (F := F)) v5 v7 v9 v263 v265) Q) := by
  rw [k0_part12_eq_skeleton]; unfold onBufs k0_part12_skel
  simp only [Prog.lift, Prog.bind_op, Prog.bind_ret, Prog.pure_eq_ret]
  iintro #HC H0 H1 Ho Hk
  iapply (wp_xWait m K c true 0 1 1 9 rfl rfl (by decide)) $$ HC H1 Ho
  iintro H1 Ho
  iapply (wp_xWait m K c true 0 1 0 9 rfl rfl (by decide)) $$ HC H0 Ho
  iintro H0 Ho
  iapply le_wp_ret
  iapply Hk $$ H0 H1 Ho

theorem body13 (c : Dev nD) {Q : _ → sProp 𝕄} :
    Ctx m K ⊢ iprop(has m c true 0 1 0 -∗ has m c true 0 1 1 -∗ due c 0 1 2 -∗ sent c 0 0 0 -∗ Ow c 9
      -∗ (has m c true 0 1 0 -∗ has m c true 0 1 1 -∗ has m c true 0 1 2 -∗ has m c false 0 0 0 -∗ Ow c 9 -∗ Q (x1 m c))
      -∗ run c (onBufs (k0_part13 (F := F)) (own0b m c) (sum0a m c)) Q) := by
  rw [k0_part13_eq_skeleton]; unfold onBufs k0_part13_skel
  simp only [Prog.lift, Prog.bind_op, Prog.bind_ret, Prog.pure_eq_ret]
  iintro #HC H0 H1 H2 Hs Ho Hk
  iapply (wp_xWait m K c true 0 1 2 9 rfl rfl (by decide)) $$ HC H2 Ho
  iintro H2 Ho
  iapply (wp_ldComm m c 0 1 0 (by decide) (v := got0 m c 1 0) rfl rfl) $$ H0
  iintro H0
  iapply (wp_ldComm m c 0 1 1 (by decide) (v := got0 m c 1 1) rfl rfl) $$ H1
  iintro H1
  iapply (wp_ldComm m c 0 1 2 (by decide) (v := got0 m c 1 2) rfl rfl) $$ H2
  iintro H2
  iapply (wp_xWait m K c false 0 0 0 9 rfl rfl (by decide)) $$ HC Hs Ho
  iintro Hs Ho
  rw [show k0_pay16 (own0b m c) (sum0a m c) (got0 m c 1 0) (got0 m c 1 1) (got0 m c 1 2) = x1 m c from rfl]
  iapply le_wp_ret
  iapply Hk $$ H0 H1 H2 Hs Ho

theorem body14 (c : Dev nD) {Q : _ → sProp 𝕄} :
    Ctx m K ⊢ iprop(sent c 0 0 1 -∗ sent c 0 0 2 -∗ sent c 0 1 0 -∗ Ow c 9
      -∗ (has m c false 0 0 1 -∗ has m c false 0 0 2 -∗ has m c false 0 1 0 -∗ Ow c 9 -∗ Q ⟨⟩)
      -∗ run c (onBufs (k0_part14 (F := F))) Q) := by
  rw [k0_part14_eq_skeleton]; unfold onBufs k0_part14_skel
  simp only [Prog.lift, Prog.bind_op, Prog.bind_ret, Prog.pure_eq_ret]
  iintro #HC H0 H1 H2 Ho Hk
  iapply (wp_xWait m K c false 0 0 1 9 rfl rfl (by decide)) $$ HC H0 Ho
  iintro H0 Ho
  iapply (wp_xWait m K c false 0 0 2 9 rfl rfl (by decide)) $$ HC H1 Ho
  iintro H1 Ho
  iapply (wp_xWait m K c false 0 1 0 9 rfl rfl (by decide)) $$ HC H2 Ho
  iintro H2 Ho
  iapply le_wp_ret
  iapply Hk $$ H0 H1 H2 Ho

theorem body15 (c : Dev nD) {Q : _ → sProp 𝕄} :
    Ctx m K ⊢ iprop(sent c 0 1 1 -∗ sent c 0 1 2 -∗ winFly m c 1 1 0 -∗ winFly m c 1 1 1 -∗ Ow c 9
      -∗ (has m c false 0 1 1 -∗ has m c false 0 1 2 -∗ winHas m c 1 1 0 -∗ winHas m c 1 1 1 -∗ Ow c 9 -∗ Q ⟨⟩)
      -∗ run c (onBufs (k0_part15 (F := F))) Q) := by
  rw [k0_part15_eq_skeleton]; unfold onBufs k0_part15_skel
  simp only [Prog.lift, Prog.bind_op, Prog.bind_ret, Prog.pure_eq_ret]
  iintro #HC H0 H1 G0 G1 Ho Hk
  iapply (wp_xWait m K c false 0 1 1 9 rfl rfl (by decide)) $$ HC H0 Ho
  iintro H0 Ho
  iapply (wp_xWait m K c false 0 1 2 9 rfl rfl (by decide)) $$ HC H1 Ho
  iintro H1 Ho
  iapply (wp_winWait m K c 9 1 1 0 rfl rfl) $$ HC G0 Ho
  iintro G0 Ho
  iapply (wp_winWait m K c 9 1 1 1 rfl rfl) $$ HC G1 Ho
  iintro G1 Ho
  iapply le_wp_ret
  iapply Hk $$ H0 H1 G0 G1 Ho

/-! ## Layer 1 -/

theorem body16 (c : Dev nD) {Q : _ → sProp 𝕄} :
    Ctx m K ⊢ iprop(winHas m c 1 1 0 -∗ winHas m c 1 1 1 -∗ winFly m c 1 1 2 -∗ winFly m c 1 1 3 -∗ woutFly m c 1 1 0 -∗ woutFly m c 1 1 1 -∗ Ow c 9
      -∗ (winFree c 1 0 -∗ winFree c 1 1 -∗ winFree c 1 2 -∗ winFree c 1 3 -∗ woutHas m c 1 1 0 -∗ woutHas m c 1 1 1 -∗ Ow c 9 -∗ Q (hid1 m c))
      -∗ run c (onBufs (k0_part16 (F := F)) (x1 m c)) Q) := by
  rw [k0_part16_eq_skeleton]; unfold onBufs k0_part16_skel
  simp only [Prog.lift, Prog.bind_op, Prog.bind_ret, Prog.pure_eq_ret]
  iintro #HC H0 H1 H2 H3 G0 G1 Ho Hk
  iapply (wp_winWait m K c 9 1 1 2 rfl rfl) $$ HC H2 Ho
  iintro H2 Ho
  iapply (wp_winWait m K c 9 1 1 3 rfl rfl) $$ HC H3 Ho
  iintro H3 Ho
  iapply (wp_ldWin m c 1 1 (v := rdWin c 1 (winF m 1 c)) rfl rfl) $$ H0 H1 H2 H3
  iintro H0 H1 H2 H3
  iapply (wp_woutWait m K c 9 1 1 0 rfl rfl) $$ HC G0 Ho
  iintro G0 Ho
  iapply (wp_woutWait m K c 9 1 1 1 rfl rfl) $$ HC G1 Ho
  iintro G1 Ho
  rw [show k0_pay17 (x1 m c) (rdWin c 1 (winF m 1 c)) = hid1 m c from rfl]
  iapply le_wp_ret
  iapply Hk $$ H0 H1 H2 H3 G0 G1 Ho

theorem body17 (c : Dev nD) {Q : _ → sProp 𝕄} :
    Ctx m K ⊢ iprop(src5 m c -∗ woutFly m c 1 1 2 -∗ woutFly m c 1 1 3 -∗ winFree c 0 0 -∗ winFree c 0 1 -∗ winFree c 0 2 -∗ Ow c 9
      -∗ (src5 m c -∗ woutHas m c 1 1 2 -∗ woutHas m c 1 1 3 -∗ winFly m c 2 0 0 -∗ winFly m c 2 0 1 -∗ winFly m c 2 0 2 -∗ Ow c 9 -∗ Q ⟨⟩)
      -∗ run c (onBufs (k0_part17 (F := F))) Q) := by
  rw [k0_part17_eq_skeleton]; unfold onBufs k0_part17_skel
  simp only [Prog.lift, Prog.bind_op, Prog.bind_ret, Prog.pure_eq_ret]
  iintro #HC Hs G2 G3 H0 H1 H2 Ho Hk
  iapply (wp_woutWait m K c 9 1 1 2 rfl rfl) $$ HC G2 Ho
  iintro G2 Ho
  iapply (wp_woutWait m K c 9 1 1 3 rfl rfl) $$ HC G3 Ho
  iintro G3 Ho
  iapply (wp_fetchPiece m c 2 0 0 rfl rfl rfl rfl) $$ Hs H0
  iintro Hs H0
  iapply (wp_fetchPiece m c 2 0 1 rfl rfl rfl rfl) $$ Hs H1
  iintro Hs H1
  iapply (wp_fetchPiece m c 2 0 2 rfl rfl rfl rfl) $$ Hs H2
  iintro Hs H2
  iapply le_wp_ret
  iapply Hk $$ Hs G2 G3 H0 H1 H2 Ho

theorem body18 (c : Dev nD) {Q : _ → sProp 𝕄} :
    src5 m c ⊢ iprop(src6 m c -∗ winFree c 0 3 -∗ woutFree c 0 0 -∗ woutFree c 0 1 -∗ woutFree c 0 2
      -∗ (src6 m c -∗ winFly m c 2 0 3 -∗ woutFly m c 2 0 0 -∗ woutFly m c 2 0 1 -∗ woutFly m c 2 0 2 -∗ Q ⟨⟩)
      -∗ run c (onBufs (k0_part18 (F := F))) Q) := by
  rw [k0_part18_eq_skeleton]; unfold onBufs k0_part18_skel
  simp only [Prog.lift, Prog.bind_op, Prog.bind_ret, Prog.pure_eq_ret]
  iintro Hs Ht H3 G0 G1 G2 Hk
  iapply (wp_fetchPiece m c 2 0 3 rfl rfl rfl rfl) $$ Hs H3
  iintro Hs H3
  iapply (wp_fetchSlab m c 2 0 0 rfl rfl rfl rfl) $$ Ht G0
  iintro Ht G0
  iapply (wp_fetchSlab m c 2 0 1 rfl rfl rfl rfl) $$ Ht G1
  iintro Ht G1
  iapply (wp_fetchSlab m c 2 0 2 rfl rfl rfl rfl) $$ Ht G2
  iintro Ht G2
  iapply le_wp_ret
  iapply Hk $$ Ht H3 G0 G1 G2

theorem body19 (c : Dev nD) (v5 v7 : BitVec 32) {Q : _ → sProp 𝕄} :
    Ctx m K ⊢ iprop(src6 m c -∗ woutFree c 0 3 -∗ woutHas m c 1 1 0 -∗ woutHas m c 1 1 1 -∗ woutHas m c 1 1 2 -∗ woutHas m c 1 1 3
      -∗ px c cc0_scratch0 (bHalf 0) -∗ xkit c 1 0 0 -∗ Ow c 9
      -∗ (woutFly m c 2 0 3 -∗ woutFree c 1 0 -∗ woutFree c 1 1 -∗ woutFree c 1 2 -∗ woutFree c 1 3
        -∗ third m c 1 0 1 -∗ third m c 1 0 2 -∗ sent c 1 0 0 -∗ Ow c 10 -∗ ∀ a b, Q ⟨act1 m c, wo1 m c, own1a m c, a, b⟩)
      -∗ run c (onBufs (k0_part19 (F := F)) c v5 v7 (hid1 m c)) Q) := by
  rw [k0_part19_eq_skeleton]; unfold onBufs k0_part19_skel
  simp only [Prog.lift, Prog.bind_op, Prog.bind_ret, Prog.pure_eq_ret]
  iintro #HC Hs G3 H0 H1 H2 H3 Hp ⟨T0, L0⟩ Ho Hk
  iapply (wp_fetchSlab m c 2 0 3 rfl rfl rfl rfl) $$ Hs G3
  iintro Hs G3
  iapply (wp_ldWout m c 1 1 (v := rdWout c 1 (woutF m 1 c)) rfl rfl) $$ H0 H1 H2 H3
  iintro H0 H1 H2 H3
  iapply (wp_half m c 1 0 (k0_pay21 (hid1 m c) (rdWout c 1 (woutF m 1 c))) (k0_pay23 (act1 m c) (wo1 m c)) rfl rfl rfl rfl) $$ Hp
  iintro Hp
  ihave Hp := (half_thirds c 0 (partF m 1 c)).1 $$ Hp
  icases Hp with ⟨P0, P1, P2⟩
  iapply (wp_xferHalf m K c 1 0 0 9 (by decide) (dev_eq 0 c (k0_dev10_eq c)) rfl rfl rfl rfl rfl) $$ HC T0 P0 L0 Ho
  iintro S0 Ho
  rw [show k0_pay18 (hid1 m c) = act1 m c from rfl, show k0_pay19 (rdWout c 1 (woutF m 1 c)) = wo1 m c from rfl,
    show k0_pay20 (hid1 m c) (rdWout c 1 (woutF m 1 c)) = own1a m c from rfl]
  iapply le_wp_ret
  iapply Hk $$ G3 H0 H1 H2 H3 P1 P2 S0 Ho

theorem body20 (c : Dev nD) (v5 v9 v439 c0 : BitVec 32) {Q : _ → sProp 𝕄} :
    Ctx m K ⊢ iprop(xkit c 1 0 1 -∗ xkit c 1 0 2 -∗ third m c 1 0 1 -∗ third m c 1 0 2 -∗ px c cc0_scratch0 (bHalf 1) -∗ Ow c 10
      -∗ (sent c 1 0 1 -∗ sent c 1 0 2 -∗ third m c 1 1 0 -∗ third m c 1 1 1 -∗ third m c 1 1 2 -∗ Ow c 12 -∗ Q (own1b m c))
      -∗ run c (onBufs (k0_part20 (F := F)) c v5 v9 (act1 m c) (wo1 m c) v439 c0) Q) := by
  rw [k0_part20_eq_skeleton]; unfold onBufs k0_part20_skel
  simp only [Prog.lift, Prog.bind_op, Prog.bind_ret, Prog.pure_eq_ret]
  iintro #HC ⟨T1, L1⟩ ⟨T2, L2⟩ P1 P2 Hp Ho Hk
  iapply (wp_xferHalf m K c 1 0 1 10 (by decide) (dev_eq 1 c (k0_dev11_eq c)) rfl rfl rfl rfl rfl) $$ HC T1 P1 L1 Ho
  iintro S1 Ho
  iapply (wp_xferHalf m K c 1 0 2 11 (by decide) (dev_eq 2 c (k0_dev12_eq c)) rfl rfl rfl rfl rfl) $$ HC T2 P2 L2 Ho
  iintro S2 Ho
  iapply (wp_half m c 1 1 (k0_pay21 (hid1 m c) (rdWout c 1 (woutF m 1 c))) (k0_pay23 (act1 m c) (wo1 m c)) rfl rfl rfl rfl) $$ Hp
  iintro Hp
  ihave Hp := (half_thirds c 1 (partF m 1 c)).1 $$ Hp
  icases Hp with ⟨P0, P1, P2⟩
  rw [show k0_pay22 (act1 m c) (wo1 m c) = own1b m c from rfl]
  iapply le_wp_ret
  iapply Hk $$ S1 S2 P0 P1 P2 Ho

theorem body21 (c : Dev nD) (v7 v9 : BitVec 32) {Q : _ → sProp 𝕄} :
    Ctx m K ⊢ iprop(xkit c 1 1 0 -∗ xkit c 1 1 1 -∗ xkit c 1 1 2 -∗ third m c 1 1 0 -∗ third m c 1 1 1 -∗ third m c 1 1 2 -∗ Ow c 12
      -∗ (sent c 1 1 0 -∗ sent c 1 1 1 -∗ sent c 1 1 2 -∗ Ow c 15 -∗ Q ⟨⟩)
      -∗ run c (onBufs (k0_part21 (F := F)) c v7 v9) Q) := by
  rw [k0_part21_eq_skeleton]; unfold onBufs k0_part21_skel
  simp only [Prog.lift, Prog.bind_op, Prog.bind_ret, Prog.pure_eq_ret]
  iintro #HC ⟨T0, L0⟩ ⟨T1, L1⟩ ⟨T2, L2⟩ P0 P1 P2 Ho Hk
  iapply (wp_xferHalf m K c 1 1 0 12 (by decide) (dev_eq 0 c (k0_dev13_eq c)) rfl rfl rfl rfl rfl) $$ HC T0 P0 L0 Ho
  iintro S0 Ho
  iapply (wp_xferHalf m K c 1 1 1 13 (by decide) (dev_eq 1 c (k0_dev14_eq c)) rfl rfl rfl rfl rfl) $$ HC T1 P1 L1 Ho
  iintro S1 Ho
  iapply (wp_xferHalf m K c 1 1 2 14 (by decide) (dev_eq 2 c (k0_dev15_eq c)) rfl rfl rfl rfl rfl) $$ HC T2 P2 L2 Ho
  iintro S2 Ho
  iapply le_wp_ret
  iapply Hk $$ S0 S1 S2 Ho

theorem body22 (c : Dev nD) (v5 v7 v9 : BitVec 32) {Q : _ → sProp 𝕄} :
    Ctx m K ⊢ iprop(due c 1 0 0 -∗ due c 1 0 1 -∗ Ow c 15
      -∗ (has m c true 1 0 0 -∗ has m c true 1 0 1 -∗ Ow c 15 -∗ Q ⟨⟩)
      -∗ run c (onBufs (k0_part22 (F := F)) v5 v7 v9) Q) := by
  rw [k0_part22_eq_skeleton]; unfold onBufs k0_part22_skel
  simp only [Prog.lift, Prog.bind_op, Prog.bind_ret, Prog.pure_eq_ret]
  iintro #HC H0 H1 Ho Hk
  iapply (wp_xWait m K c true 1 0 1 15 rfl rfl (by decide)) $$ HC H1 Ho
  iintro H1 Ho
  iapply (wp_xWait m K c true 1 0 0 15 rfl rfl (by decide)) $$ HC H0 Ho
  iintro H0 Ho
  iapply le_wp_ret
  iapply Hk $$ H0 H1 Ho

theorem body23 (c : Dev nD) (v5 : BitVec 32) {Q : _ → sProp 𝕄} :
    Ctx m K ⊢ iprop(has m c true 1 0 0 -∗ has m c true 1 0 1 -∗ due c 1 0 2 -∗ due c 1 1 1 -∗ Ow c 15
      -∗ (has m c true 1 0 0 -∗ has m c true 1 0 1 -∗ has m c true 1 0 2 -∗ has m c true 1 1 1 -∗ Ow c 15 -∗ Q (sum1a m c))
      -∗ run c (onBufs (k0_part23 (F := F)) v5 (own1a m c)) Q) := by
  rw [k0_part23_eq_skeleton]; unfold onBufs k0_part23_skel
  simp only [Prog.lift, Prog.bind_op, Prog.bind_ret, Prog.pure_eq_ret]
  iintro #HC H0 H1 H2 G1 Ho Hk
  iapply (wp_xWait m K c true 1 0 2 15 rfl rfl (by decide)) $$ HC H2 Ho
  iintro H2 Ho
  iapply (wp_ldComm m c 1 0 0 (by decide) (v := got1 m c 0 0) rfl rfl) $$ H0
  iintro H0
  iapply (wp_ldComm m c 1 0 1 (by decide) (v := got1 m c 0 1) rfl rfl) $$ H1
  iintro H1
  iapply (wp_ldComm m c 1 0 2 (by decide) (v := got1 m c 0 2) rfl rfl) $$ H2
  iintro H2
  iapply (wp_xWait m K c true 1 1 1 15 rfl rfl (by decide)) $$ HC G1 Ho
  iintro G1 Ho
  rw [show k0_pay24 (own1a m c) (got1 m c 0 0) (got1 m c 0 1) (got1 m c 0 2) = sum1a m c from rfl]
  iapply le_wp_ret
  iapply Hk $$ H0 H1 H2 G1 Ho

theorem body24 (c : Dev nD) (v7 v9 : BitVec 32) {Q : _ → sProp 𝕄} :
    Ctx m K ⊢ iprop(due c 1 1 0 -∗ has m c true 1 1 1 -∗ due c 1 1 2 -∗ Ow c 15
      -∗ (has m c true 1 1 0 -∗ has m c true 1 1 1 -∗ has m c true 1 1 2 -∗ Ow c 15 -∗ Q (sum1b m c))
      -∗ run c (onBufs (k0_part24 (F := F)) v7 v9 (own1b m c)) Q) := by
  rw [k0_part24_eq_skeleton]; unfold onBufs k0_part24_skel
  simp only [Prog.lift, Prog.bind_op, Prog.bind_ret, Prog.pure_eq_ret]
  iintro #HC H0 H1 H2 Ho Hk
  iapply (wp_xWait m K c true 1 1 0 15 rfl rfl (by decide)) $$ HC H0 Ho
  iintro H0 Ho
  iapply (wp_xWait m K c true 1 1 2 15 rfl rfl (by decide)) $$ HC H2 Ho
  iintro H2 Ho
  iapply (wp_ldComm m c 1 1 0 (by decide) (v := got1 m c 1 0) rfl rfl) $$ H0
  iintro H0
  iapply (wp_ldComm m c 1 1 1 (by decide) (v := got1 m c 1 1) rfl rfl) $$ H1
  iintro H1
  iapply (wp_ldComm m c 1 1 2 (by decide) (v := got1 m c 1 2) rfl rfl) $$ H2
  iintro H2
  rw [show k0_pay25 (own1b m c) (got1 m c 1 0) (got1 m c 1 1) (got1 m c 1 2) = sum1b m c from rfl]
  iapply le_wp_ret
  iapply Hk $$ H0 H1 H2 Ho

theorem body25 (c : Dev nD) {Q : _ → sProp 𝕄} :
    Ctx m K ⊢ iprop(sent c 1 0 0 -∗ sent c 1 0 1 -∗ sent c 1 0 2 -∗ Ow c 15
      -∗ (has m c false 1 0 0 -∗ has m c false 1 0 1 -∗ has m c false 1 0 2 -∗ Ow c 15 -∗ Q (x2 m c))
      -∗ run c (onBufs (k0_part25 (F := F)) (sum1a m c) (sum1b m c)) Q) := by
  rw [k0_part25_eq_skeleton]; unfold onBufs k0_part25_skel
  simp only [Prog.lift, Prog.bind_op, Prog.bind_ret, Prog.pure_eq_ret]
  iintro #HC H0 H1 H2 Ho Hk
  iapply (wp_xWait m K c false 1 0 0 15 rfl rfl (by decide)) $$ HC H0 Ho
  iintro H0 Ho
  iapply (wp_xWait m K c false 1 0 1 15 rfl rfl (by decide)) $$ HC H1 Ho
  iintro H1 Ho
  iapply (wp_xWait m K c false 1 0 2 15 rfl rfl (by decide)) $$ HC H2 Ho
  iintro H2 Ho
  rw [show k0_pay26 (sum1a m c) (sum1b m c) = x2 m c from rfl]
  iapply le_wp_ret
  iapply Hk $$ H0 H1 H2 Ho

theorem body26 (c : Dev nD) {Q : _ → sProp 𝕄} :
    Ctx m K ⊢ iprop(sent c 1 1 0 -∗ sent c 1 1 1 -∗ sent c 1 1 2 -∗ Ow c 15
      -∗ (has m c false 1 1 0 -∗ has m c false 1 1 1 -∗ has m c false 1 1 2 -∗ Ow c 15 -∗ Q ⟨⟩)
      -∗ run c (onBufs (k0_part26 (F := F))) Q) := by
  rw [k0_part26_eq_skeleton]; unfold onBufs k0_part26_skel
  simp only [Prog.lift, Prog.bind_op, Prog.bind_ret, Prog.pure_eq_ret]
  iintro #HC H0 H1 H2 Ho Hk
  iapply (wp_xWait m K c false 1 1 0 15 rfl rfl (by decide)) $$ HC H0 Ho
  iintro H0 Ho
  iapply (wp_xWait m K c false 1 1 1 15 rfl rfl (by decide)) $$ HC H1 Ho
  iintro H1 Ho
  iapply (wp_xWait m K c false 1 1 2 15 rfl rfl (by decide)) $$ HC H2 Ho
  iintro H2 Ho
  iapply le_wp_ret
  iapply Hk $$ H0 H1 H2 Ho

end Cert.KernelIdeal.Mlp
-- ==== Proof.PartsC.lean ====
/-
# The body's pieces, third group: layer 2 and the result
-/
module

public import proofs.«01_k».proof.Proof.PartsB

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The rows of device `d` in one half of the partial buffer, in layer 2. -/
abbrev rowsOf (c : Dev nD) (h : Fin 2) (d : Dev nD) : sProp 𝕄 := pt c cc0_scratch0 (bBlk h d) fullShare (partF m 2 c)

variable {α : Type}

/-- The load of a slot of landed rows. -/
theorem wp_ldRows (c : Dev nD) (s : Fin 3) {off} {inb} {hl} {v : S1x16x1024.Idx → Elt F .bf16}
    {kk : (S1x16x1024.Idx → Elt F .bf16) → Prog (TpuEff nD τ sig (Elt F) Λ₀ .tc) α} {Q : α → sProp 𝕄}
    (ho : off = ![s.val, 0, 0])
    (hv : rowsM.view.readAt (Elt F) (Rect.unit (s := S3x16x1024) off S1x16x1024.size inb).toLoadRect (landedRows (partF m 2) c) = v) :
    has m c true 2 0 s ⊢ iprop(has m c true 2 1 s -∗ (has m c true 2 0 s -∗ has m c true 2 1 s -∗ run c (kk v) Q)
      -∗ run c (.op (.load rowsM (Rect.unit (s := S3x16x1024) off S1x16x1024.size inb).toLoadRect hl) kk) Q) := by
  subst ho
  unfold has
  rw [show pay m c (some (true, 2, 0, s)) 0 = pt c cc0_scratch2 (bRows 0 s) fullShare (landedRows (partF m 2) c) from by
      rfl,
    show pay m c (some (true, 2, 1, s)) 0 = pt c cc0_scratch2 (bRows 1 s) fullShare (landedRows (partF m 2) c) from by
      rfl]
  iintro ⟨H0, Hv0⟩ ⟨H1, Hv1⟩ Hk
  ihave Hp := (slot_cut c s (landedRows (partF m 2) c)).2 $$ [H0 H1]
  · isplitl [H0]; · iexact H0
    iexact H1
  iapply (wp_rd c rowsM (by
    exact (load_sub cc0_scratch2 ![s.val, 0, 0] S1x16x1024.size inb (o' := ![s.val, 0, 0]) (z' := ![1, 16, 1024])
      (fun a => by fin_cases a <;> exact ⟨le_refl _, le_refl _⟩))) hv) $$ Hp
  iintro Hp
  ihave Hp := (slot_cut c s (landedRows (partF m 2) c)).1 $$ Hp
  icases Hp with ⟨H0, H1⟩
  iapply Hk $$ [H0 Hv0] [H1 Hv1]
  · isplitl [H0]; · iexact H0
    iexact Hv0
  · isplitl [H1]; · iexact H1
    iexact Hv1

/-- The load of the device's own rows. -/
theorem wp_ldOwn (c : Dev nD) {off} {inb} {hl} {v : S16x1024.Idx → Elt F .bf16}
    {kk : (S16x1024.Idx → Elt F .bf16) → Prog (TpuEff nD τ sig (Elt F) Λ₀ .tc) α} {Q : α → sProp 𝕄}
    (ho : off = ![16 * c.val, 0])
    (hv : partM.view.readAt (Elt F) (Rect.unit (s := S64x1024) off S16x1024.size inb).toLoadRect (partF m 2 c) = v) :
    rowsOf m c 0 c ⊢ iprop(rowsOf m c 1 c -∗ (rowsOf m c 0 c -∗ rowsOf m c 1 c -∗ run c (kk v) Q)
      -∗ run c (.op (.load partM (Rect.unit (s := S64x1024) off S16x1024.size inb).toLoadRect hl) kk) Q) := by
  subst ho
  iintro H0 H1 Hk
  ihave Hp := (own_cut c c (partF m 2 c)).2 $$ [H0 H1]
  · isplitl [H0]; · iexact H0
    iexact H1
  iapply (wp_rd c partM (by
    exact (load_sub cc0_scratch0 ![16 * c.val, 0] S16x1024.size inb (o' := ![16 * c.val, 0]) (z' := ![16, 1024])
      (fun a => by fin_cases a <;> exact ⟨le_refl _, le_refl _⟩))) hv) $$ Hp
  iintro Hp
  ihave Hp := (own_cut c c (partF m 2 c)).1 $$ Hp
  icases Hp with ⟨H0, H1⟩
  iapply Hk $$ H0 H1

/-- The store of the result. -/
theorem wp_stOut (c : Dev nD) {off} {inb} {w : S16x1024.Idx → Elt F .f32} {hx hm} {f : Buf (Elt F) ((c : Thread nD τ).loc cc0_stg1_0)}
    {k : PUnit → Prog (TpuEff nD τ sig (Elt F) Λ₀ .tc) α} {Q : α → sProp 𝕄} (ho : off = fun _ => 0) (hw : w = out m c) :
    ((((c : Thread nD τ).loc cc0_stg1_0) ↦{fullShare} f) : sProp 𝕄)
      ⊢ iprop(((((c : Thread nD τ).loc cc0_stg1_0) ↦{fullShare} out m c) -∗ run c (k ⟨⟩) Q)
        -∗ run c (.op (.store oM (Rect.unit (s := S16x1024) off S16x1024.size inb) w Finset.univ hx hm) k) Q) := by
  subst hw
  have e : (oM.access (Rect.unit (s := S16x1024) off S16x1024.size inb)).write (Elt F) f (out m c) Finset.univ = out m c :=
    Memref.write_access_unit_zero_univ (Elt F) cc0_stg1_0 ho inb f (out m c)
  iintro Hp Hk
  iapply (wp_store 𝒱₀ (c : Thread nD τ) none Set.univ (m := oM) (r := Rect.unit (s := S16x1024) off S16x1024.size inb) (w := out m c)
    (Mk := Finset.univ) (Finset.subset_univ _)) $$ Hp
  iintro Hp
  iapply Hk
  ihave Hp := (BIBase.Entails.of_eq (congrArg (fun g => ((((c : Thread nD τ).loc cc0_stg1_0) ↦{fullShare} g) : sProp 𝕄)) e)) $$ Hp
  iexact Hp

theorem body27 (c : Dev nD) {Q : _ → sProp 𝕄} :
    Ctx m K ⊢ iprop(winFly m c 2 0 0 -∗ winFly m c 2 0 1 -∗ winFly m c 2 0 2 -∗ winFly m c 2 0 3 -∗ Ow c 15
      -∗ (winFree c 0 0 -∗ winFree c 0 1 -∗ winFree c 0 2 -∗ winFree c 0 3 -∗ Ow c 15 -∗ Q (hid2 m c))
      -∗ run c (onBufs (k0_part27 (F := F)) (x2 m c)) Q) := by
  rw [k0_part27_eq_skeleton]; unfold onBufs k0_part27_skel
  simp only [Prog.lift, Prog.bind_op, Prog.bind_ret, Prog.pure_eq_ret]
  iintro #HC H0 H1 H2 H3 Ho Hk
  iapply (wp_winWait m K c 15 2 0 0 rfl rfl) $$ HC H0 Ho
  iintro H0 Ho
  iapply (wp_winWait m K c 15 2 0 1 rfl rfl) $$ HC H1 Ho
  iintro H1 Ho
  iapply (wp_winWait m K c 15 2 0 2 rfl rfl) $$ HC H2 Ho
  iintro H2 Ho
  iapply (wp_winWait m K c 15 2 0 3 rfl rfl) $$ HC H3 Ho
  iintro H3 Ho
  iapply (wp_ldWin m c 2 0 (v := rdWin c 0 (winF m 2 c)) rfl rfl) $$ H0 H1 H2 H3
  iintro H0 H1 H2 H3
  rw [show k0_pay27 (x2 m c) (rdWin c 0 (winF m 2 c)) = hid2 m c from rfl]
  iapply le_wp_ret
  iapply Hk $$ H0 H1 H2 H3 Ho

theorem body28 (c : Dev nD) {Q : _ → sProp 𝕄} :
    Ctx m K ⊢ iprop(woutFly m c 2 0 0 -∗ woutFly m c 2 0 1 -∗ woutFly m c 2 0 2 -∗ woutFly m c 2 0 3 -∗ Ow c 15
      -∗ (woutFree c 0 0 -∗ woutFree c 0 1 -∗ woutFree c 0 2 -∗ woutFree c 0 3 -∗ Ow c 15 -∗ Q ⟨act2 m c, wo2 m c, wo2a m c, zH⟩)
      -∗ run c (onBufs (k0_part28 (F := F)) (hid2 m c)) Q) := by
  rw [k0_part28_eq_skeleton]; unfold onBufs k0_part28_skel
  simp only [Prog.lift, Prog.bind_op, Prog.bind_ret, Prog.pure_eq_ret]
  iintro #HC H0 H1 H2 H3 Ho Hk
  iapply (wp_woutWait m K c 15 2 0 0 rfl rfl) $$ HC H0 Ho
  iintro H0 Ho
  iapply (wp_woutWait m K c 15 2 0 1 rfl rfl) $$ HC H1 Ho
  iintro H1 Ho
  iapply (wp_woutWait m K c 15 2 0 2 rfl rfl) $$ HC H2 Ho
  iintro H2 Ho
  iapply (wp_woutWait m K c 15 2 0 3 rfl rfl) $$ HC H3 Ho
  iintro H3 Ho
  iapply (wp_ldWout m c 2 0 (v := rdWout c 0 (woutF m 2 c)) rfl rfl) $$ H0 H1 H2 H3
  iintro H0 H1 H2 H3
  rw [show k0_pay28 (hid2 m c) = act2 m c from rfl, show k0_pay29 (rdWout c 0 (woutF m 2 c)) = wo2 m c from rfl,
    show k0_pay30 (rdWout c 0 (woutF m 2 c)) = wo2a m c from rfl, show (constant S64x512 .f32 0x00000000#32 : FVec F S64x512 .f32) = zH from rfl]
  iapply le_wp_ret
  iapply Hk $$ H0 H1 H2 H3 Ho

theorem body29 (c : Dev nD) (v5 v7 v9 : BitVec 32) {Q : _ → sProp 𝕄} :
    Ctx m K ⊢ iprop(px c cc0_scratch0 (bHalf 0) -∗ xkit c 2 0 0 -∗ xkit c 2 0 1 -∗ Ow c 15
      -∗ (rowsOf m c 0 c -∗ rowsOf m c 0 (pr 2 c) -∗ sent c 2 0 0 -∗ sent c 2 0 1 -∗ Ow c 17 -∗ Q ⟨⟩)
      -∗ run c (onBufs (k0_part29 (F := F)) c v5 v7 v9 (act2 m c) (wo2a m c) zH) Q) := by
  rw [k0_part29_eq_skeleton]; unfold onBufs k0_part29_skel
  simp only [Prog.lift, Prog.bind_op, Prog.bind_ret, Prog.pure_eq_ret]
  iintro #HC Hp ⟨T0, L0⟩ ⟨T1, L1⟩ Ho Hk
  iapply (wp_half m c 2 0 (k0_pay31 (act2 m c) (wo2a m c) zH) (k0_pay32 (act2 m c) (wo2 m c)) rfl rfl rfl rfl) $$ Hp
  iintro Hp
  ihave Hp := (BIBase.Entails.of_eq (half_blks c 0 (partF m 2 c))) $$ Hp
  icases Hp with ⟨P, P0, P1, P2⟩
  iapply (wp_xferRows m K c 0 0 15 (dev_eq 0 c (k0_dev16_eq c)) rfl rfl rfl rfl (k0_off1_eq c)) $$ HC T0 P0 L0 Ho
  iintro S0 Ho
  iapply (wp_xferRows m K c 0 1 16 (dev_eq 1 c (k0_dev17_eq c)) rfl rfl rfl rfl (k0_off2_eq c 0)) $$ HC T1 P1 L1 Ho
  iintro S1 Ho
  iapply le_wp_ret
  iapply Hk $$ P P2 S0 S1 Ho

theorem body30 (c : Dev nD) (v5 v7 v9 : BitVec 32) {Q : _ → sProp 𝕄} :
    Ctx m K ⊢ iprop(rowsOf m c 0 (pr 2 c) -∗ px c cc0_scratch0 (bHalf 1) -∗ xkit c 2 0 2 -∗ xkit c 2 1 0 -∗ Ow c 17
      -∗ (rowsOf m c 1 c -∗ rowsOf m c 1 (pr 1 c) -∗ rowsOf m c 1 (pr 2 c) -∗ sent c 2 0 2 -∗ sent c 2 1 0 -∗ Ow c 19 -∗ Q ⟨⟩)
      -∗ run c (onBufs (k0_part30 (F := F)) c v5 v7 v9 (act2 m c) (wo2 m c)) Q) := by
  rw [k0_part30_eq_skeleton]; unfold onBufs k0_part30_skel
  simp only [Prog.lift, Prog.bind_op, Prog.bind_ret, Prog.pure_eq_ret]
  iintro #HC P2 Hp ⟨T2, L2⟩ ⟨T0, L0⟩ Ho Hk
  iapply (wp_xferRows m K c 0 2 17 (dev_eq 2 c (k0_dev18_eq c)) rfl rfl rfl rfl (k0_off2_eq c 1)) $$ HC T2 P2 L2 Ho
  iintro S2 Ho
  iapply (wp_half m c 2 1 (k0_pay31 (act2 m c) (wo2a m c) zH) (k0_pay32 (act2 m c) (wo2 m c)) rfl rfl rfl rfl) $$ Hp
  iintro Hp
  ihave Hp := (BIBase.Entails.of_eq (half_blks c 1 (partF m 2 c))) $$ Hp
  icases Hp with ⟨P, P0, P1, P2⟩
  iapply (wp_xferRows m K c 1 0 18 (dev_eq 0 c (k0_dev19_eq c)) rfl rfl rfl rfl (k0_off3_eq c)) $$ HC T0 P0 L0 Ho
  iintro S0 Ho
  iapply le_wp_ret
  iapply Hk $$ P P1 P2 S2 S0 Ho

theorem body31 (c : Dev nD) (v5 v7 v9 : BitVec 32) {Q : _ → sProp 𝕄} :
    Ctx m K ⊢ iprop(rowsOf m c 1 (pr 1 c) -∗ rowsOf m c 1 (pr 2 c) -∗ xkit c 2 1 1 -∗ xkit c 2 1 2 -∗ Ow c 19
      -∗ (sent c 2 1 1 -∗ sent c 2 1 2 -∗ Ow c 21 -∗ Q ⟨⟩)
      -∗ run c (onBufs (k0_part31 (F := F)) c v5 v7 v9) Q) := by
  rw [k0_part31_eq_skeleton]; unfold onBufs k0_part31_skel
  simp only [Prog.lift, Prog.bind_op, Prog.bind_ret, Prog.pure_eq_ret]
  iintro #HC P1 P2 ⟨T1, L1⟩ ⟨T2, L2⟩ Ho Hk
  iapply (wp_xferRows m K c 1 1 19 (dev_eq 1 c (k0_dev20_eq c)) rfl rfl rfl rfl (k0_off4_eq c 0)) $$ HC T1 P1 L1 Ho
  iintro S1 Ho
  iapply (wp_xferRows m K c 1 2 20 (dev_eq 2 c (k0_dev21_eq c)) rfl rfl rfl rfl (k0_off4_eq c 1)) $$ HC T2 P2 L2 Ho
  iintro S2 Ho
  iapply le_wp_ret
  iapply Hk $$ S1 S2 Ho

theorem body32 (c : Dev nD) (v5 v7 v9 : BitVec 32) {Q : _ → sProp 𝕄} :
    Ctx m K ⊢ iprop(due c 2 0 0 -∗ due c 2 0 1 -∗ due c 2 0 2 -∗ Ow c 21
      -∗ (has m c true 2 0 0 -∗ has m c true 2 0 1 -∗ has m c true 2 0 2 -∗ Ow c 21 -∗ Q ⟨⟩)
      -∗ run c (onBufs (k0_part32 (F := F)) c v5 v7 v9) Q) := by
  rw [k0_part32_eq_skeleton]; unfold onBufs k0_part32_skel
  simp only [Prog.lift, Prog.bind_op, Prog.bind_ret, Prog.pure_eq_ret]
  iintro #HC H0 H1 H2 Ho Hk
  iapply (wp_xWait m K c true 2 0 1 21 rfl rfl (by decide)) $$ HC H1 Ho
  iintro H1 Ho
  iapply (wp_xWait m K c true 2 0 0 21 rfl rfl (by decide)) $$ HC H0 Ho
  iintro H0 Ho
  iapply (wp_xWait m K c true 2 0 2 21 rfl rfl (by decide)) $$ HC H2 Ho
  iintro H2 Ho
  iapply le_wp_ret
  iapply Hk $$ H0 H1 H2 Ho

theorem body33 (c : Dev nD) (v2 v7 v9 : BitVec 32) {Q : _ → sProp 𝕄} :
    Ctx m K ⊢ iprop(due c 2 1 0 -∗ due c 2 1 1 -∗ due c 2 1 2 -∗ rowsOf m c 0 c -∗ rowsOf m c 1 c -∗ has m c true 2 0 0 -∗ has m c true 2 0 1 -∗ Ow c 21
      -∗ (has m c true 2 1 0 -∗ has m c true 2 1 1 -∗ has m c true 2 1 2 -∗ rowsOf m c 0 c -∗ rowsOf m c 1 c -∗ has m c true 2 0 0
        -∗ has m c true 2 0 1 -∗ Ow c 21 -∗ Q ⟨k0_pay33 (rdOwn c (part2 m c)) (got2 m c 0), k0_pay34 (got2 m c 1)⟩)
      -∗ run c (onBufs (k0_part33 (F := F)) c v2 v7 v9) Q) := by
  rw [k0_part33_eq_skeleton]; unfold onBufs k0_part33_skel
  simp only [Prog.lift, Prog.bind_op, Prog.bind_ret, Prog.pure_eq_ret]
  iintro #HC H0 H1 H2 R0 R1 G0 G1 Ho Hk
  iapply (wp_xWait m K c true 2 1 1 21 rfl rfl (by decide)) $$ HC H1 Ho
  iintro H1 Ho
  iapply (wp_xWait m K c true 2 1 0 21 rfl rfl (by decide)) $$ HC H0 Ho
  iintro H0 Ho
  iapply (wp_xWait m K c true 2 1 2 21 rfl rfl (by decide)) $$ HC H2 Ho
  iintro H2 Ho
  iapply (wp_ldOwn m c (v := rdOwn c (part2 m c)) (k0_off5_eq c) rfl) $$ R0 R1
  iintro R0 R1
  iapply (wp_ldRows m c 0 (v := got2 m c 0) rfl rfl) $$ G0 H0
  iintro G0 H0
  iapply (wp_ldRows m c 1 (v := got2 m c 1) rfl rfl) $$ G1 H1
  iintro G1 H1
  iapply le_wp_ret
  iapply Hk $$ H0 H1 H2 R0 R1 G0 G1 Ho

theorem body34 (c : Dev nD) {f : Buf (Elt F) ((c : Thread nD τ).loc cc0_stg1_0)} {Q : _ → sProp 𝕄} :
    Ctx m K ⊢ iprop(has m c true 2 0 2 -∗ has m c true 2 1 2 -∗ (((c : Thread nD τ).loc cc0_stg1_0) ↦{fullShare} f)
      -∗ sent c 2 0 0 -∗ sent c 2 0 1 -∗ Ow c 21
      -∗ (has m c true 2 0 2 -∗ has m c true 2 1 2 -∗ (((c : Thread nD τ).loc cc0_stg1_0) ↦{fullShare} out m c)
        -∗ has m c false 2 0 0 -∗ has m c false 2 0 1 -∗ Ow c 21 -∗ Q ⟨⟩)
      -∗ run c (onBufs (k0_part34 (F := F)) c (k0_pay33 (rdOwn c (part2 m c)) (got2 m c 0)) (k0_pay34 (got2 m c 1))) Q) := by
  rw [k0_part34_eq_skeleton]; unfold onBufs k0_part34_skel
  simp only [Prog.lift, Prog.bind_op, Prog.bind_ret, Prog.pure_eq_ret]
  iintro #HC G2 H2 Hout S0 S1 Ho Hk
  iapply (wp_ldRows m c 2 (v := got2 m c 2) rfl rfl) $$ G2 H2
  iintro G2 H2
  iapply (wp_rd c oM (Finset.subset_univ _) rfl) $$ Hout
  iintro Hout
  iapply (wp_stOut m c (by funext a; fin_cases a <;> rfl) rfl) $$ Hout
  iintro Hout
  iapply (wp_xWait m K c false 2 0 0 21 rfl rfl (by decide)) $$ HC S0 Ho
  iintro S0 Ho
  iapply (wp_xWait m K c false 2 0 1 21 rfl rfl (by decide)) $$ HC S1 Ho
  iintro S1 Ho
  iapply le_wp_ret
  iapply Hk $$ G2 H2 Hout S0 S1 Ho

end Cert.KernelIdeal.Mlp
-- ==== Proof.Store.lean ====
/-
# What the body starts from and what it gives back
-/
module

public import proofs.«01_k».proof.Proof.PartsC

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- Some contents over a set a finite family partitions, part by part. -/
theorem px_parts {c : Dev nD} {b : Ref sig .tc} {T : Type} [Fintype T] {S : Finset (Idx ((c : Thread nD τ).loc b))}
    (B : T → Finset (Idx ((c : Thread nD τ).loc b))) (hu : ∀ i, i ∈ S ↔ ∃ t, i ∈ B t) (hd : ∀ t t' i, i ∈ B t → i ∈ B t' → t = t') :
    (px c b S : sProp 𝕄) ⊢ bigSep Finset.univ (fun t => (px c b (B t) : sProp 𝕄)) := by
  iintro ⟨%f, H⟩
  ihave H := (BIBase.Entails.of_eq (pt_parts (F := F) (f := f) (q := fullShare) B hu hd)) $$ H
  iapply (show bigSep Finset.univ (fun t => (pt c b (B t) fullShare f : sProp 𝕄)) ⊢ bigSep Finset.univ (fun t => (px c b (B t) : sProp 𝕄)) from
    bigSep_mono fun t _ => show (pt c b (B t) fullShare f : sProp 𝕄) ⊢ px c b (B t) from by iintro H; iexists f; iexact H)
  iexact H

/-! ## The buffers, cut as the body uses them -/

theorem halves_all (i : S64x1024.Idx) : i ∈ (Finset.univ : Finset S64x1024.Idx) ↔ ∃ h, i ∈ bHalf h := by
  simp only [mem_box2, Finset.mem_univ, true_iff]
  show ∃ h : Fin 2, (0 ≤ _ ∧ _) ∧ (512 * h.val ≤ (i 1).val ∧ (i 1).val < 512 * h.val + 512)
  have h0 : (i 0).val < 64 := (i 0).2
  have h1 : (i 1).val < 1024 := (i 1).2
  exact ⟨⟨(i 1).val / 512, by omega⟩, ⟨Nat.zero_le _, by show _ < 0 + 64; omega⟩,
    by show 512 * ((i 1).val / 512) ≤ _; omega, by show _ < 512 * ((i 1).val / 512) + 512; omega⟩
theorem halves_one (h h' : Fin 2) (i : S64x1024.Idx) (hi : i ∈ bHalf h) (hi' : i ∈ bHalf h') : h = h' := by
  have a : 512 * h.val ≤ (i 1).val ∧ (i 1).val < 512 * h.val + 512 := (mem_box2.mp hi).2
  have b : 512 * h'.val ≤ (i 1).val ∧ (i 1).val < 512 * h'.val + 512 := (mem_box2.mp hi').2
  exact Fin.ext (by omega)

abbrev commAt (t : Fin 3 × Fin 2 × Fin 2) : Finset S2x3x64x1024.Idx := bComm t.2.1.castSucc t.2.2 t.1
theorem comm_all (i : S2x3x64x1024.Idx) : i ∈ (Finset.univ : Finset S2x3x64x1024.Idx) ↔ ∃ t, i ∈ commAt t := by
  simp only [mem_box4, Finset.mem_univ, true_iff]
  have h0 : (i 0).val < 2 := (i 0).2
  have h1 : (i 1).val < 3 := (i 1).2
  have h2 : (i 2).val < 64 := (i 2).2
  have h3 : (i 3).val < 1024 := (i 3).2
  refine ⟨(⟨(i 1).val, h1⟩, ⟨(i 0).val, h0⟩, ⟨(i 3).val / 512, by omega⟩), ⟨le_refl _, ?_⟩, ⟨le_refl _, ?_⟩, ⟨Nat.zero_le _, ?_⟩, ?_, ?_⟩
  · show _ < (i 0).val + 1; omega
  · show _ < (i 1).val + 1; omega
  · show _ < 0 + 64; omega
  · show 512 * ((i 3).val / 512) ≤ _; omega
  · show _ < 512 * ((i 3).val / 512) + 512; omega
theorem comm_one (t t' : Fin 3 × Fin 2 × Fin 2) (i : S2x3x64x1024.Idx) (hi : i ∈ commAt t) (hi' : i ∈ commAt t') : t = t' := by
  obtain ⟨s, l, h⟩ := t
  obtain ⟨s', l', h'⟩ := t'
  have a := mem_box4.mp hi
  have b := mem_box4.mp hi'
  have a0 : l.val ≤ (i 0).val ∧ (i 0).val < l.val + 1 := a.1
  have b0 : l'.val ≤ (i 0).val ∧ (i 0).val < l'.val + 1 := b.1
  have a1 : s.val ≤ (i 1).val ∧ (i 1).val < s.val + 1 := a.2.1
  have b1 : s'.val ≤ (i 1).val ∧ (i 1).val < s'.val + 1 := b.2.1
  have a3 : 512 * h.val ≤ (i 3).val ∧ (i 3).val < 512 * h.val + 512 := a.2.2.2
  have b3 : 512 * h'.val ≤ (i 3).val ∧ (i 3).val < 512 * h'.val + 512 := b.2.2.2
  rw [show s = s' from Fin.ext (by omega), show l = l' from Fin.ext (by omega), show h = h' from Fin.ext (by omega)]

abbrev rowsAt (t : Fin 3 × Fin 2) : Finset S3x16x1024.Idx := bRows t.2 t.1
theorem rows_all (i : S3x16x1024.Idx) : i ∈ (Finset.univ : Finset S3x16x1024.Idx) ↔ ∃ t, i ∈ rowsAt t := by
  simp only [mem_box3, Finset.mem_univ, true_iff]
  have h0 : (i 0).val < 3 := (i 0).2
  have h1 : (i 1).val < 16 := (i 1).2
  have h2 : (i 2).val < 1024 := (i 2).2
  refine ⟨(⟨(i 0).val, h0⟩, ⟨(i 2).val / 512, by omega⟩), ⟨le_refl _, ?_⟩, ⟨Nat.zero_le _, ?_⟩, ?_, ?_⟩
  · show _ < (i 0).val + 1; omega
  · show _ < 0 + 16; omega
  · show 512 * ((i 2).val / 512) ≤ _; omega
  · show _ < 512 * ((i 2).val / 512) + 512; omega
theorem rows_one (t t' : Fin 3 × Fin 2) (i : S3x16x1024.Idx) (hi : i ∈ rowsAt t) (hi' : i ∈ rowsAt t') : t = t' := by
  obtain ⟨s, h⟩ := t
  obtain ⟨s', h'⟩ := t'
  have a := mem_box3.mp hi
  have b := mem_box3.mp hi'
  have a0 : s.val ≤ (i 0).val ∧ (i 0).val < s.val + 1 := a.1
  have b0 : s'.val ≤ (i 0).val ∧ (i 0).val < s'.val + 1 := b.1
  have a2 : 512 * h.val ≤ (i 2).val ∧ (i 2).val < 512 * h.val + 512 := a.2.2
  have b2 : 512 * h'.val ≤ (i 2).val ∧ (i 2).val < 512 * h'.val + 512 := b.2.2
  rw [show s = s' from Fin.ext (by omega), show h = h' from Fin.ext (by omega)]

abbrev pieceAt (t : Fin 2 × Fin 4) : Finset S2x1024x2048.Idx := bPiece t.1 t.2
theorem piece_all (i : S2x1024x2048.Idx) : i ∈ (Finset.univ : Finset S2x1024x2048.Idx) ↔ ∃ t, i ∈ pieceAt t := by
  simp only [mem_box3, Finset.mem_univ, true_iff]
  have h0 : (i 0).val < 2 := (i 0).2
  have h1 : (i 1).val < 1024 := (i 1).2
  have h2 : (i 2).val < 2048 := (i 2).2
  refine ⟨(⟨(i 0).val, h0⟩, ⟨(i 1).val / 256, by omega⟩), ⟨le_refl _, ?_⟩, ⟨?_, ?_⟩, Nat.zero_le _, ?_⟩
  · show _ < (i 0).val + 1; omega
  · show 256 * ((i 1).val / 256) ≤ _; omega
  · show _ < 256 * ((i 1).val / 256) + 256; omega
  · show _ < 0 + 2048; omega
theorem piece_one (t t' : Fin 2 × Fin 4) (i : S2x1024x2048.Idx) (hi : i ∈ pieceAt t) (hi' : i ∈ pieceAt t') : t = t' := by
  obtain ⟨s, k⟩ := t
  obtain ⟨s', k'⟩ := t'
  have a0 : s.val ≤ (i 0).val ∧ (i 0).val < s.val + 1 := (mem_box3.mp hi).1
  have b0 : s'.val ≤ (i 0).val ∧ (i 0).val < s'.val + 1 := (mem_box3.mp hi').1
  obtain rfl : s = s' := Fin.ext (by omega)
  rw [bPiece_inj s k k' i hi hi']

abbrev slabAt (t : Fin 2 × Fin 4) : Finset S2x2048x1024.Idx := bSlab t.1 t.2
theorem slab_all (i : S2x2048x1024.Idx) : i ∈ (Finset.univ : Finset S2x2048x1024.Idx) ↔ ∃ t, i ∈ slabAt t := by
  simp only [mem_box3, Finset.mem_univ, true_iff]
  have h0 : (i 0).val < 2 := (i 0).2
  have h1 : (i 1).val < 2048 := (i 1).2
  have h2 : (i 2).val < 1024 := (i 2).2
  refine ⟨(⟨(i 0).val, h0⟩, ⟨(i 1).val / 512, by omega⟩), ⟨le_refl _, ?_⟩, ⟨?_, ?_⟩, Nat.zero_le _, ?_⟩
  · show _ < (i 0).val + 1; omega
  · show 512 * ((i 1).val / 512) ≤ _; omega
  · show _ < 512 * ((i 1).val / 512) + 512; omega
  · show _ < 0 + 1024; omega
theorem slab_one (t t' : Fin 2 × Fin 4) (i : S2x2048x1024.Idx) (hi : i ∈ slabAt t) (hi' : i ∈ slabAt t') : t = t' := by
  obtain ⟨s, k⟩ := t
  obtain ⟨s', k'⟩ := t'
  have a0 : s.val ≤ (i 0).val ∧ (i 0).val < s.val + 1 := (mem_box3.mp hi).1
  have b0 : s'.val ≤ (i 0).val ∧ (i 0).val < s'.val + 1 := (mem_box3.mp hi').1
  obtain rfl : s = s' := Fin.ext (by omega)
  rw [bSlab_inj s k k' i hi hi']

/-! ## Families one by one -/

theorem bigSep_two (Φ : Fin 2 → sProp 𝕄) : bigSep Finset.univ Φ = iprop(Φ 0 ∗ Φ 1) := by
  rw [bigSep_univ_eq_bigSepL [0, 1] (by decide) (by decide), bigSepL_cons_cons, bigSepL_singleton]; rfl
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
theorem bigSep_2x4 (Φ : Fin 2 × Fin 4 → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3))) := by
  rw [bigSep_univ_prod, bigSep_two, bigSep_four, bigSep_four]
theorem bigSep_3x2 (Φ : Fin 3 × Fin 2 → sProp 𝕄) : bigSep Finset.univ Φ
    = iprop((Φ (0, 0) ∗ Φ (0, 1)) ∗ (Φ (1, 0) ∗ Φ (1, 1)) ∗ (Φ (2, 0) ∗ Φ (2, 1))) := by
  rw [bigSep_univ_prod, bigSep_three, bigSep_two, bigSep_two, bigSep_two]
theorem bigSep_3x2x2 (Φ : Fin 3 × Fin 2 × Fin 2 → sProp 𝕄) : bigSep Finset.univ Φ
    = iprop(((Φ (0, 0, 0) ∗ Φ (0, 0, 1)) ∗ (Φ (0, 1, 0) ∗ Φ (0, 1, 1))) ∗ ((Φ (1, 0, 0) ∗ Φ (1, 0, 1)) ∗ (Φ (1, 1, 0) ∗ Φ (1, 1, 1)))
      ∗ ((Φ (2, 0, 0) ∗ Φ (2, 0, 1)) ∗ (Φ (2, 1, 0) ∗ Φ (2, 1, 1)))) := by
  rw [bigSep_univ_prod, bigSep_three, bigSep_univ_prod, bigSep_univ_prod, bigSep_univ_prod]
  simp only [bigSep_two]

/-! ## Opening and closing the buffers -/

theorem open_part (c : Dev nD) : (px c cc0_scratch0 Finset.univ : sProp 𝕄) ⊢ iprop(px c cc0_scratch0 (bHalf 0) ∗ px c cc0_scratch0 (bHalf 1)) :=
  (px_parts (c := c) (b := cc0_scratch0) bHalf halves_all halves_one).trans (BIBase.Entails.of_eq (bigSep_two _))
theorem close_part (c : Dev nD) : iprop(px c cc0_scratch0 (bHalf 0) ∗ px c cc0_scratch0 (bHalf 1)) ⊢ (px c cc0_scratch0 Finset.univ : sProp 𝕄) := by
  iintro ⟨⟨%f, H0⟩, H1⟩
  iapply ((BIBase.Entails.of_eq (bigSep_two fun h => (px c cc0_scratch0 (bHalf h) : sProp 𝕄)).symm).trans
    (px_join (F := F) (c := c) (b := cc0_scratch0) bHalf f halves_all halves_one))
  isplitl [H0]; · iexists f; iexact H0
  iexact H1

theorem lnds_eq (c : Dev nD) (s : Fin 3) : (lnds c s : sProp 𝕄) = iprop(px c cc0_scratch1 (commAt (s, 0, 0)) ∗ px c cc0_scratch1 (commAt (s, 0, 1))
    ∗ px c cc0_scratch1 (commAt (s, 1, 0)) ∗ px c cc0_scratch1 (commAt (s, 1, 1)) ∗ px c cc0_scratch2 (rowsAt (s, 0)) ∗ px c cc0_scratch2 (rowsAt (s, 1))) := rfl

theorem open_lnds (c : Dev nD) : (px c cc0_scratch1 Finset.univ : sProp 𝕄)
    ⊢ iprop(px c cc0_scratch2 Finset.univ -∗ (lnds c 0 ∗ lnds c 1 ∗ lnds c 2)) := by
  rw [lnds_eq, lnds_eq, lnds_eq]
  iintro H G
  ihave H := ((px_parts (F := F) (c := c) (b := cc0_scratch1) commAt comm_all comm_one).trans (BIBase.Entails.of_eq (bigSep_3x2x2 _))) $$ H
  ihave G := ((px_parts (F := F) (c := c) (b := cc0_scratch2) rowsAt rows_all rows_one).trans (BIBase.Entails.of_eq (bigSep_3x2 _))) $$ G
  icases H with ⟨⟨⟨A0, A1⟩, A2, A3⟩, ⟨⟨B0, B1⟩, B2, B3⟩, ⟨C0, C1⟩, C2, C3⟩
  icases G with ⟨⟨A4, A5⟩, ⟨B4, B5⟩, C4, C5⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [C0]; · iexact C0
  isplitl [C1]; · iexact C1
  isplitl [C2]; · iexact C2
  isplitl [C3]; · iexact C3
  isplitl [C4]; · iexact C4
  iexact C5

theorem close_lnds (c : Dev nD) : (lnds c 0 : sProp 𝕄)
    ⊢ iprop(lnds c 1 -∗ lnds c 2 -∗ (px c cc0_scratch1 Finset.univ ∗ px c cc0_scratch2 Finset.univ)) := by
  rw [lnds_eq, lnds_eq, lnds_eq]
  iintro ⟨⟨%f, A0⟩, A1, A2, A3, ⟨%g, A4⟩, A5⟩ ⟨B0, B1, B2, B3, B4, B5⟩ ⟨C0, C1, C2, C3, C4, C5⟩
  isplitl [A0 A1 A2 A3 B0 B1 B2 B3 C0 C1 C2 C3]
  · iapply ((BIBase.Entails.of_eq (bigSep_3x2x2 fun t => (px c cc0_scratch1 (commAt t) : sProp 𝕄)).symm).trans
      (px_join (F := F) (c := c) (b := cc0_scratch1) commAt f comm_all comm_one))
    isplitl [A0 A1 A2 A3]
    · isplitl [A0 A1]
      · isplitl [A0]; · iexists f; iexact A0
        iexact A1
      · isplitl [A2]; · iexact A2
        iexact A3
    isplitl [B0 B1 B2 B3]
    · isplitl [B0 B1]
      · isplitl [B0]; · iexact B0
        iexact B1
      · isplitl [B2]; · iexact B2
        iexact B3
    isplitl [C0 C1]
    · isplitl [C0]; · iexact C0
      iexact C1
    isplitl [C2]; · iexact C2
    iexact C3
  · iapply ((BIBase.Entails.of_eq (bigSep_3x2 fun t => (px c cc0_scratch2 (rowsAt t) : sProp 𝕄)).symm).trans
      (px_join (F := F) (c := c) (b := cc0_scratch2) rowsAt g rows_all rows_one))
    isplitl [A4 A5]
    · isplitl [A4]; · iexists g; iexact A4
      iexact A5
    isplitl [B4 B5]
    · isplitl [B4]; · iexact B4
      iexact B5
    isplitl [C4]; · iexact C4
    iexact C5

theorem lnds_in (c : Dev nD) (s : Fin 3) : (lnd c 0 0 s : sProp 𝕄)
    ⊢ iprop(lnd c 0 1 s -∗ lnd c 1 0 s -∗ lnd c 1 1 s -∗ lnd c 2 0 s -∗ lnd c 2 1 s -∗ lnds c s) := by
  unfold lnds
  iintro L0 L1 L2 L3 L4 L5
  isplitl [L0]; · iexact L0
  isplitl [L1]; · iexact L1
  isplitl [L2]; · iexact L2
  isplitl [L3]; · iexact L3
  isplitl [L4]; · iexact L4
  iexact L5

/-- The local transfers' semaphores of the two weight buffers, at zero. -/
def winZ (c : Dev nD) (s : Fin 2) (k : Fin 4) : sProp 𝕄 := semVal ((c : Thread nD τ), .dma (winS s k)) 0
def woutZ (c : Dev nD) (s : Fin 2) (k : Fin 4) : sProp 𝕄 := semVal ((c : Thread nD τ), .dma (woutS s k)) 0

theorem open_win (c : Dev nD) : (px c cc0_scratch3 Finset.univ : sProp 𝕄)
    ⊢ iprop(bigSep Finset.univ (fun t : Fin 2 × Fin 4 => winZ c t.1 t.2) -∗ bigSep Finset.univ (fun t : Fin 2 × Fin 4 => winFree c t.1 t.2)) := by
  iintro H Hz
  ihave H := (px_parts (F := F) (c := c) (b := cc0_scratch3) pieceAt piece_all piece_one) $$ H
  iapply (BIBase.Entails.of_eq (bigSep_sep' (I := Fin 2 × Fin 4) (s := Finset.univ)
    (Φ := fun t => (px c cc0_scratch3 (pieceAt t) : sProp 𝕄)) (Ψ := fun t => winZ c t.1 t.2)).symm)
  isplitl [H]; · iexact H
  iexact Hz
include m in
theorem close_win (c : Dev nD) : bigSep Finset.univ (fun t : Fin 2 × Fin 4 => (winFree c t.1 t.2 : sProp 𝕄))
    ⊢ iprop((px c cc0_scratch3 Finset.univ) ∗ bigSep Finset.univ (fun t : Fin 2 × Fin 4 => winZ c t.1 t.2)) := by
  rw [show bigSep Finset.univ (fun t : Fin 2 × Fin 4 => (winFree c t.1 t.2 : sProp 𝕄)) = _ from bigSep_sep' (I := Fin 2 × Fin 4) (s := Finset.univ)
    (Φ := fun t => (px c cc0_scratch3 (pieceAt t) : sProp 𝕄)) (Ψ := fun t => winZ c t.1 t.2)]
  iintro ⟨H, Hz⟩
  isplitl [H]
  · iapply (px_join (F := F) (c := c) (b := cc0_scratch3) pieceAt (m _) piece_all piece_one); iexact H
  · iexact Hz
theorem open_wout (c : Dev nD) : (px c cc0_scratch4 Finset.univ : sProp 𝕄)
    ⊢ iprop(bigSep Finset.univ (fun t : Fin 2 × Fin 4 => woutZ c t.1 t.2) -∗ bigSep Finset.univ (fun t : Fin 2 × Fin 4 => woutFree c t.1 t.2)) := by
  iintro H Hz
  ihave H := (px_parts (F := F) (c := c) (b := cc0_scratch4) slabAt slab_all slab_one) $$ H
  iapply (BIBase.Entails.of_eq (bigSep_sep' (I := Fin 2 × Fin 4) (s := Finset.univ)
    (Φ := fun t => (px c cc0_scratch4 (slabAt t) : sProp 𝕄)) (Ψ := fun t => woutZ c t.1 t.2)).symm)
  isplitl [H]; · iexact H
  iexact Hz
include m in
theorem close_wout (c : Dev nD) : bigSep Finset.univ (fun t : Fin 2 × Fin 4 => (woutFree c t.1 t.2 : sProp 𝕄))
    ⊢ iprop((px c cc0_scratch4 Finset.univ) ∗ bigSep Finset.univ (fun t : Fin 2 × Fin 4 => woutZ c t.1 t.2)) := by
  rw [show bigSep Finset.univ (fun t : Fin 2 × Fin 4 => (woutFree c t.1 t.2 : sProp 𝕄)) = _ from bigSep_sep' (I := Fin 2 × Fin 4) (s := Finset.univ)
    (Φ := fun t => (px c cc0_scratch4 (slabAt t) : sProp 𝕄)) (Ψ := fun t => woutZ c t.1 t.2)]
  iintro ⟨H, Hz⟩
  isplitl [H]
  · iapply (px_join (F := F) (c := c) (b := cc0_scratch4) slabAt (m _) slab_all slab_one); iexact H
  · iexact Hz

/-! ## The exchange's tokens and cells, grouped -/

/-- The tokens for the six transfers to one neighbour; -/
def toks (c : Dev nD) (j : Fin 3) : sProp 𝕄 :=
  iprop(sTok c 0 0 j ∗ sTok c 0 1 j ∗ sTok c 1 0 j ∗ sTok c 1 1 j ∗ sTok c 2 0 j ∗ sTok c 2 1 j)
/-- with the places they land in, what the six transfers take. -/
theorem kits (c : Dev nD) (j s : Fin 3) (h : inv j = s) : toks c j ⊢ iprop(lnds (pr j c) s -∗
    ((xkit c 0 0 j : sProp 𝕄) ∗ xkit c 0 1 j ∗ xkit c 1 0 j ∗ xkit c 1 1 j ∗ xkit c 2 0 j ∗ xkit c 2 1 j)) := by
  subst h
  unfold toks lnds
  iintro ⟨T0, T1, T2, T3, T4, T5⟩ ⟨L0, L1, L2, L3, L4, L5⟩
  isplitl [T0 L0]; · isplitl [T0]; · iexact T0
                     iexact L0
  isplitl [T1 L1]; · isplitl [T1]; · iexact T1
                     iexact L1
  isplitl [T2 L2]; · isplitl [T2]; · iexact T2
                     iexact L2
  isplitl [T3 L3]; · isplitl [T3]; · iexact T3
                     iexact L3
  isplitl [T4 L4]; · isplitl [T4]; · iexact T4
                     iexact L4
  isplitl [T5]; · iexact T5
  iexact L5

/-- The rights to the three arrivals of a half in a layer, -/
def dues (c : Dev nD) (l : Fin 3) (h : Fin 2) : sProp 𝕄 := iprop(due c l h 0 ∗ due c l h 1 ∗ due c l h 2)
/-- and three cells at zero. -/
def zs (c : Dev nD) (b : Bool) (l : Fin 3) (h : Fin 2) : sProp 𝕄 :=
  iprop(semVal (cell c (some (b, l, h, 0))) 0 ∗ semVal (cell c (some (b, l, h, 1))) 0 ∗ semVal (cell c (some (b, l, h, 2))) 0)

/-- An arrival used: its place and its cell. -/
theorem has_lnd (c : Dev nD) (l : Fin 3) (h : Fin 2) (s : Fin 3) :
    has m c true l h s ⊢ iprop(lnd c l h s ∗ semVal (cell c (some (true, l, h, s))) 0) := by
  unfold has
  rw [show pay m c (some (true, l, h, s)) 0 = recvPay m c l h s from rfl]
  iintro ⟨H, Hv⟩
  isplitl [H]
  · unfold recvPay lnd
    split
    · iexists _; iexact H
    · iexists _; iexact H
  · iexact Hv

theorem recv_back (c : Dev nD) (l : Fin 3) (h : Fin 2) : has m c true l h 0 ⊢ iprop(has m c true l h 1 -∗ has m c true l h 2
    -∗ (lnd c l h 0 ∗ lnd c l h 1 ∗ lnd c l h 2 ∗ zs c true l h)) := by
  iintro H0 H1 H2
  ihave H0 := (has_lnd m c l h 0) $$ H0
  ihave H1 := (has_lnd m c l h 1) $$ H1
  ihave H2 := (has_lnd m c l h 2) $$ H2
  icases H0 with ⟨L0, V0⟩
  icases H1 with ⟨L1, V1⟩
  icases H2 with ⟨L2, V2⟩
  unfold zs
  isplitl [L0]; · iexact L0
  isplitl [L1]; · iexact L1
  isplitl [L2]; · iexact L2
  isplitl [V0]; · iexact V0
  isplitl [V1]; · iexact V1
  iexact V2

theorem send_back (c : Dev nD) (l : Fin 3) (h : Fin 2) (h2 : l ≠ 2) : has m c false l h 0 ⊢ iprop(has m c false l h 1 -∗ has m c false l h 2
    -∗ (px c cc0_scratch0 (bHalf h) ∗ zs c false l h)) := half_back m c l h h2

theorem rows_back (c : Dev nD) (h : Fin 2) : has m c false 2 h 0 ⊢ iprop(has m c false 2 h 1 -∗ has m c false 2 h 2 -∗ rowsOf m c h c
    -∗ (px c cc0_scratch0 (bHalf h) ∗ zs c false 2 h)) := by
  unfold has zs
  rw [show pay m c (some (false, 2, h, 0)) 0 = rowsOf m c h (pr 0 c) from rfl, show pay m c (some (false, 2, h, 1)) 0 = rowsOf m c h (pr 1 c) from rfl,
    show pay m c (some (false, 2, h, 2)) 0 = rowsOf m c h (pr 2 c) from rfl]
  iintro ⟨P0, V0⟩ ⟨P1, V1⟩ ⟨P2, V2⟩ P
  isplitl [P P0 P1 P2]
  · iexists (partF m 2 c)
    iapply (BIBase.Entails.of_eq (half_blks c h (partF m 2 c)).symm)
    isplitl [P]; · iexact P
    isplitl [P0]; · iexact P0
    isplitl [P1]; · iexact P1
    iexact P2
  isplitl [V0]; · iexact V0
  isplitl [V1]; · iexact V1
  iexact V2

end Cert.KernelIdeal.Mlp
-- ==== Proof.Body.lean ====
/-
# The whole body on one device
-/
module

public import proofs.«01_k».proof.Proof.Store

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The six weights. -/
abbrev srcs (c : Dev nD) : sProp 𝕄 := iprop(src1 m c ∗ src2 m c ∗ src3 m c ∗ src4 m c ∗ src5 m c ∗ src6 m c)
/-- The five buffers of the body's own. -/
abbrev bufs (c : Dev nD) : sProp 𝕄 := iprop(px c cc0_scratch0 Finset.univ ∗ px c cc0_scratch1 Finset.univ ∗ px c cc0_scratch2 Finset.univ
  ∗ px c cc0_scratch3 Finset.univ ∗ px c cc0_scratch4 Finset.univ)
/-- The semaphores of the local transfers. -/
abbrev localZ (c : Dev nD) : sProp 𝕄 := iprop(bigSep Finset.univ (fun t : Fin 2 × Fin 4 => winZ c t.1 t.2)
  ∗ bigSep Finset.univ (fun t : Fin 2 × Fin 4 => woutZ c t.1 t.2))
/-- The handshake's tokens. -/
abbrev sigs (c : Dev nD) : sProp 𝕄 := iprop(dutyTok ER (cell (pr 0 c) none) 0 (inv 0) ∗ dutyTok ER (cell (pr 1 c) none) 0 (inv 1)
  ∗ dutyTok ER (cell (pr 2 c) none) 0 (inv 2))
/-- All the rights to arrivals, -/
abbrev duesAll (c : Dev nD) : sProp 𝕄 := iprop(dues c 0 0 ∗ dues c 0 1 ∗ dues c 1 0 ∗ dues c 1 1 ∗ dues c 2 0 ∗ dues c 2 1)
/-- and all the cells of one kind at zero. -/
abbrev zsAll (c : Dev nD) (b : Bool) : sProp 𝕄 := iprop(zs c b 0 0 ∗ zs c b 0 1 ∗ zs c b 1 0 ∗ zs c b 1 1 ∗ zs c b 2 0 ∗ zs c b 2 1)

theorem body_run (c : Dev nD) {fo : Buf (Elt F) ((c : Thread nD τ).loc cc0_stg1_0)} {Q : PUnit → sProp 𝕄} :
    Ctx m K ⊢ iprop(srcs m c -∗ bufs c -∗ localZ c -∗ sigs c -∗ hold c none -∗ toks c 0 -∗ toks c 1 -∗ toks c 2 -∗ duesAll c
      -∗ (((c : Thread nD τ).loc cc0_stg0_0) ↦{fullShare} xst m c) -∗ (((c : Thread nD τ).loc cc0_stg1_0) ↦{fullShare} fo) -∗ Ow c 0
      -∗ (bufs c -∗ localZ c -∗ semVal (cell c none) 0 -∗ zsAll c false -∗ zsAll c true
        -∗ (((c : Thread nD τ).loc cc0_stg0_0) ↦{fullShare} xst m c) -∗ (((c : Thread nD τ).loc cc0_stg1_0) ↦{fullShare} out m c) -∗ Ow c 21 -∗ Q ⟨⟩)
      -∗ run c (onBufs (cc0_body (F := F))) Q) := by
  rw [cc0_body_eq_skeleton]; unfold onBufs cc0_body_skel
  rw [k0_part35_eq_skeleton]; unfold k0_part35_skel
  simp only [Prog.lift, Prog.bind_op, Prog.bind_ret, Prog.pure_eq_ret, wp_bind, Prog.bind_assoc]
  iintro #HC ⟨S1, S2, S3, S4, S5, S6⟩ ⟨B0, B1, B2, B3, B4⟩ ⟨Zi, Zo⟩ ⟨G0, G1, G2⟩ Hb T0 T1 T2 ⟨D00, D01, D10, D11, D20, D21⟩ Hx Hy Ho Hk
  ihave B0 := (open_part c) $$ B0
  icases B0 with ⟨P0, P1⟩
  ihave B1 := (open_lnds c) $$ B1 B2
  icases B1 with ⟨L0, L1, L2⟩
  ihave B3 := (open_win c) $$ B3 Zi
  ihave B3 := (BIBase.Entails.of_eq (bigSep_2x4 fun t : Fin 2 × Fin 4 => (winFree c t.1 t.2 : sProp 𝕄))) $$ B3
  icases B3 with ⟨⟨I00, I01, I02, I03⟩, I10, I11, I12, I13⟩
  ihave B4 := (open_wout c) $$ B4 Zo
  ihave B4 := (BIBase.Entails.of_eq (bigSep_2x4 fun t : Fin 2 × Fin 4 => (woutFree c t.1 t.2 : sProp 𝕄))) $$ B4
  icases B4 with ⟨⟨O00, O01, O02, O03⟩, O10, O11, O12, O13⟩
  iapply (body1 m c) $$ S1 I00 I01 I02
  iintro S1 I00 I01 I02 %v2 %v5 %v7 %v9
  iapply (body2 m c) $$ S1 S2 I03 O00 O01 O02
  iintro S2 I03 O00 O01 O02
  iapply (body3 m K c v5 v7 v9) $$ HC S2 O03 [G0 L0] [G1 L1] [G2 L2] Hb Ho Hx I00
  · isplitl [G0]; · iexact G0
    iexact L0
  · isplitl [G1]; · iexact G1
    iexact L1
  · isplitl [G2]; · iexact G2
    iexact L2
  iintro O03 ⟨L0, L1, L2⟩ Vb Ho Hx I00
  unfold dues
  icases D00 with ⟨D000, D001, D002⟩
  icases D01 with ⟨D010, D011, D012⟩
  icases D10 with ⟨D100, D101, D102⟩
  icases D11 with ⟨D110, D111, D112⟩
  icases D20 with ⟨D200, D201, D202⟩
  icases D21 with ⟨D210, D211, D212⟩
  ihave X0 := (kits c 0 1 rfl) $$ T0 L0
  icases X0 with ⟨X000, X010, X100, X110, X200, X210⟩
  ihave X1 := (kits c 1 0 rfl) $$ T1 L1
  icases X1 with ⟨X001, X011, X101, X111, X201, X211⟩
  ihave X2 := (kits c 2 2 rfl) $$ T2 L2
  icases X2 with ⟨X002, X012, X102, X112, X202, X212⟩
  iapply (body4 m K c) $$ HC I01 I02 I03 Ho
  iintro I01 I02 I03 Ho
  iapply (body5 m K c _ _ _ _) $$ HC O00 O01 O02 O03 Ho
  iintro O00 O01 O02 O03 Ho
  iapply (body6 m c) $$ S3 S4 I10 I11 I12 I13 O10
  iintro S4 I10 I11 I12 I13 O10
  iapply (body7 m c) $$ S4 O11 O12 O13 O00 O01 O02 O03 P0
  iintro O11 O12 O13 O00 O01 O02 O03 P00 P01 P02
  iapply (body8 m K c v5 v7 v9) $$ HC X000 X001 P00 P01 Ho
  iintro E000 E001 Ho
  iapply (body9 m K c v5 v7) $$ HC X002 X010 P02 P1 Ho
  iintro E002 E010 P11 P12 Ho
  iapply (body10 m K c v5 v9) $$ HC X011 X012 P11 P12 D001 Ho
  iintro E011 E012 D001 Ho
  iapply (body11 m K c v7 v9) $$ HC D000 D001 D002 Ho
  iintro D000 D001 D002 Ho
  iapply (body12 m K c v5 v7 v9 _ _) $$ HC D010 D011 Ho
  iintro D010 D011 Ho
  iapply (body13 m K c) $$ HC D010 D011 D012 E000 Ho
  iintro D010 D011 D012 E000 Ho
  iapply (body14 m K c) $$ HC E001 E002 E010 Ho
  iintro E001 E002 E010 Ho
  iapply (body15 m K c) $$ HC E011 E012 I10 I11 Ho
  iintro E011 E012 I10 I11 Ho
  ihave P0 := (send_back m c 0 0 (by decide)) $$ E000 E001 E002
  icases P0 with ⟨P0, Vs00⟩
  ihave P1 := (send_back m c 0 1 (by decide)) $$ E010 E011 E012
  icases P1 with ⟨P1, Vs01⟩
  ihave Y := (recv_back m c 0 0) $$ D000 D001 D002
  icases Y with ⟨L000, L001, L002, Vr00⟩
  ihave Y := (recv_back m c 0 1) $$ D010 D011 D012
  icases Y with ⟨L010, L011, L012, Vr01⟩
  iapply (body16 m K c) $$ HC I10 I11 I12 I13 O10 O11 Ho
  iintro I10 I11 I12 I13 O10 O11 Ho
  iapply (body17 m K c) $$ HC S5 O12 O13 I00 I01 I02 Ho
  iintro S5 O12 O13 I00 I01 I02 Ho
  iapply (body18 m c) $$ S5 S6 I03 O00 O01 O02
  iintro S6 I03 O00 O01 O02
  iapply (body19 m K c v5 v7) $$ HC S6 O03 O10 O11 O12 O13 P0 X100 Ho
  iintro O03 O10 O11 O12 O13 P01 P02 E100 Ho %w439 %w0
  iapply (body20 m K c v5 v9 w439 w0) $$ HC X101 X102 P01 P02 P1 Ho
  iintro E101 E102 P10 P11 P12 Ho
  iapply (body21 m K c v7 v9) $$ HC X110 X111 X112 P10 P11 P12 Ho
  iintro E110 E111 E112 Ho
  iapply (body22 m K c v5 v7 v9) $$ HC D100 D101 Ho
  iintro D100 D101 Ho
  iapply (body23 m K c v5) $$ HC D100 D101 D102 D111 Ho
  iintro D100 D101 D102 D111 Ho
  iapply (body24 m K c v7 v9) $$ HC D110 D111 D112 Ho
  iintro D110 D111 D112 Ho
  iapply (body25 m K c) $$ HC E100 E101 E102 Ho
  iintro E100 E101 E102 Ho
  iapply (body26 m K c) $$ HC E110 E111 E112 Ho
  iintro E110 E111 E112 Ho
  ihave P0 := (send_back m c 1 0 (by decide)) $$ E100 E101 E102
  icases P0 with ⟨P0, Vs10⟩
  ihave P1 := (send_back m c 1 1 (by decide)) $$ E110 E111 E112
  icases P1 with ⟨P1, Vs11⟩
  ihave Y := (recv_back m c 1 0) $$ D100 D101 D102
  icases Y with ⟨L100, L101, L102, Vr10⟩
  ihave Y := (recv_back m c 1 1) $$ D110 D111 D112
  icases Y with ⟨L110, L111, L112, Vr11⟩
  iapply (body27 m K c) $$ HC I00 I01 I02 I03 Ho
  iintro I00 I01 I02 I03 Ho
  iapply (body28 m K c) $$ HC O00 O01 O02 O03 Ho
  iintro O00 O01 O02 O03 Ho
  iapply (body29 m K c v5 v7 v9) $$ HC P0 X200 X201 Ho
  iintro R0 R02 E200 E201 Ho
  iapply (body30 m K c v5 v7 v9) $$ HC R02 P1 X202 X210 Ho
  iintro R1 R11 R12 E202 E210 Ho
  iapply (body31 m K c v5 v7 v9) $$ HC R11 R12 X211 X212 Ho
  iintro E211 E212 Ho
  iapply (body32 m K c v5 v7 v9) $$ HC D200 D201 D202 Ho
  iintro D200 D201 D202 Ho
  iapply (body33 m K c v2 v7 v9) $$ HC D210 D211 D212 R0 R1 D200 D201 Ho
  iintro D210 D211 D212 R0 R1 D200 D201 Ho
  iapply (body34 m K c) $$ HC D202 D212 Hy E200 E201 Ho
  iintro D202 D212 Hy E200 E201 Ho
  iapply (wp_xWait m K c false 2 0 2 21 rfl rfl (by decide)) $$ HC E202 Ho
  iintro E202 Ho
  iapply (wp_xWait m K c false 2 1 0 21 rfl rfl (by decide)) $$ HC E210 Ho
  iintro E210 Ho
  iapply (wp_xWait m K c false 2 1 1 21 rfl rfl (by decide)) $$ HC E211 Ho
  iintro E211 Ho
  iapply (wp_xWait m K c false 2 1 2 21 rfl rfl (by decide)) $$ HC E212 Ho
  iintro E212 Ho
  iapply le_wp_ret
  ihave P0 := (rows_back m c 0) $$ E200 E201 E202 R0
  icases P0 with ⟨P0, Vs20⟩
  ihave P1 := (rows_back m c 1) $$ E210 E211 E212 R1
  icases P1 with ⟨P1, Vs21⟩
  ihave Y := (recv_back m c 2 0) $$ D200 D201 D202
  icases Y with ⟨L200, L201, L202, Vr20⟩
  ihave Y := (recv_back m c 2 1) $$ D210 D211 D212
  icases Y with ⟨L210, L211, L212, Vr21⟩
  ihave Y := (lnds_in c 0) $$ L000 L010 L100 L110 L200 L210
  ihave Y1 := (lnds_in c 1) $$ L001 L011 L101 L111 L201 L211
  ihave Y2 := (lnds_in c 2) $$ L002 L012 L102 L112 L202 L212
  ihave Y := (close_lnds c) $$ Y Y1 Y2
  icases Y with ⟨B1, B2⟩
  ihave B0 := (close_part c) $$ [P0 P1]
  · isplitl [P0]; · iexact P0
    iexact P1
  ihave B3 := ((BIBase.Entails.of_eq (bigSep_2x4 fun t : Fin 2 × Fin 4 => (winFree c t.1 t.2 : sProp 𝕄)).symm).trans (close_win m c)) $$ [I00 I01 I02 I03 I10 I11 I12 I13]
  · isplitl [I00 I01 I02 I03]
    · isplitl [I00]; · iexact I00
      isplitl [I01]; · iexact I01
      isplitl [I02]; · iexact I02
      iexact I03
    isplitl [I10]; · iexact I10
    isplitl [I11]; · iexact I11
    isplitl [I12]; · iexact I12
    iexact I13
  icases B3 with ⟨B3, Zi⟩
  ihave B4 := ((BIBase.Entails.of_eq (bigSep_2x4 fun t : Fin 2 × Fin 4 => (woutFree c t.1 t.2 : sProp 𝕄)).symm).trans (close_wout m c)) $$ [O00 O01 O02 O03 O10 O11 O12 O13]
  · isplitl [O00 O01 O02 O03]
    · isplitl [O00]; · iexact O00
      isplitl [O01]; · iexact O01
      isplitl [O02]; · iexact O02
      iexact O03
    isplitl [O10]; · iexact O10
    isplitl [O11]; · iexact O11
    isplitl [O12]; · iexact O12
    iexact O13
  icases B4 with ⟨B4, Zo⟩
  iapply Hk $$ [B0 B1 B2 B3 B4] [Zi Zo] Vb [Vs00 Vs01 Vs10 Vs11 Vs20 Vs21] [Vr00 Vr01 Vr10 Vr11 Vr20 Vr21] Hx Hy Ho
  · isplitl [B0]; · iexact B0
    isplitl [B1]; · iexact B1
    isplitl [B2]; · iexact B2
    isplitl [B3]; · iexact B3
    iexact B4
  · isplitl [Zi]; · iexact Zi
    iexact Zo
  · isplitl [Vs00]; · iexact Vs00
    isplitl [Vs01]; · iexact Vs01
    isplitl [Vs10]; · iexact Vs10
    isplitl [Vs11]; · iexact Vs11
    isplitl [Vs20]; · iexact Vs20
    iexact Vs21
  · isplitl [Vr00]; · iexact Vr00
    isplitl [Vr01]; · iexact Vr01
    isplitl [Vr10]; · iexact Vr10
    isplitl [Vr11]; · iexact Vr11
    isplitl [Vr20]; · iexact Vr20
    iexact Vr21

end Cert.KernelIdeal.Mlp
-- ==== Proof.Launch.lean ====
/-
# The launch: every device's cells, tokens and credits
-/
module

public import proofs.«01_k».proof.Proof.Body

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## Families over the cells -/

/-- The cells of the transfers, -/
abbrev XI : Type := Bool × Fin 3 × Fin 2 × Fin 3
/-- a device's duty tokens: its barrier's three, and one for each of the others. -/
abbrev TI : Type := Fin 3 ⊕ XI

theorem bigSep_plus {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

theorem bigSep_cells (Φ : CI → sProp 𝕄) : bigSep Finset.univ Φ = iprop((bigSep Finset.univ fun x : XI => Φ (some x)) ∗ Φ none) := by
  rw [bigSep_univ_equiv (Equiv.optionEquivSumPUnit.{0, 0} XI).symm Φ, bigSep_plus, show (Finset.univ : Finset PUnit.{1}) = {PUnit.unit} from rfl, bigSep_singleton]
  rfl

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

theorem bigSep_XI (Φ : XI → sProp 𝕄) : bigSep Finset.univ Φ
    = iprop((bigSep Finset.univ fun x : Fin 3 × Fin 2 × Fin 3 => Φ (false, x)) ∗ bigSep Finset.univ fun x : Fin 3 × Fin 2 × Fin 3 => Φ (true, x)) := by
  rw [bigSep_univ_prod, bigSep_bool]

/-- The families of a layer and a half, each of three. -/
theorem bigSep_halves (Φ : Fin 3 × Fin 2 × Fin 3 → sProp 𝕄) (T : Fin 3 → Fin 2 → sProp 𝕄)
    (h : ∀ l h, T l h = iprop(Φ (l, h, 0) ∗ Φ (l, h, 1) ∗ Φ (l, h, 2))) :
    bigSep Finset.univ Φ = iprop((T 0 0 ∗ T 0 1) ∗ (T 1 0 ∗ T 1 1) ∗ (T 2 0 ∗ T 2 1)) := by
  rw [bigSep_univ_prod, bigSep_three, bigSep_univ_prod, bigSep_univ_prod, bigSep_univ_prod, bigSep_two, bigSep_two, bigSep_two,
    bigSep_three, bigSep_three, bigSep_three, bigSep_three, bigSep_three, bigSep_three, h, h, h, h, h, h]

/-! ## The cells' ghost state -/

theorem cell_injective : Function.Injective (fun ci : Dev nD × CI => cell ci.1 ci.2) := by
  rintro ⟨c, i⟩ ⟨c', i'⟩ h
  obtain rfl : c = c' := congrArg (fun g : GSem nD τ sig => g.1.1) h
  obtain rfl : i = i' := csem_injective (congrArg Prod.snd h)
  rfl

def meshCells : Finset (GSem nD τ sig) := Finset.univ.map ⟨_, cell_injective⟩

abbrev tokOf (ct : Dev nD × TI) : GSem nD τ sig × ℕ × Fin 3 :=
  match ct with
  | (c, .inl e) => (cell c none, 0, e)
  | (c, .inr x) => (cell c (some x), 0, 0)

theorem tokOf_injective : Function.Injective tokOf := by
  rintro ⟨c, e | x⟩ ⟨c', e' | x'⟩ h
  · obtain ⟨rfl, -⟩ := Prod.ext_iff.mp (@cell_injective (c, none) (c', none) (congrArg (fun z : GSem nD τ sig × ℕ × Fin 3 => z.1) h))
    obtain rfl : e = e' := congrArg (fun z : GSem nD τ sig × ℕ × Fin 3 => z.2.2) h
    rfl
  · exact absurd (congrArg Prod.snd (@cell_injective (c, none) (c', some x') (congrArg (fun z : GSem nD τ sig × ℕ × Fin 3 => z.1) h))) (fun h => by cases h)
  · exact absurd (congrArg Prod.snd (@cell_injective (c, some x) (c', none) (congrArg (fun z : GSem nD τ sig × ℕ × Fin 3 => z.1) h))) (fun h => by cases h)
  · have e := @cell_injective (c, some x) (c', some x') (congrArg (fun z : GSem nD τ sig × ℕ × Fin 3 => z.1) h)
    cases e; rfl

def meshToks : Finset (GSem nD τ sig × ℕ × Fin 3) := Finset.univ.map ⟨tokOf, tokOf_injective⟩

def u₀ : UU :=
  (initOf (Pipeline.cells cfgs cellOf_inj) (Pipeline.launchToks cfgs cellOf_inj), (initOf meshCells meshToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The token of a duty at its cell. -/
abbrev tokAt (ct : Dev nD × TI) : sProp 𝕄 := dutyTok ER (tokOf ct).1 (tokOf ct).2.1 (tokOf ct).2.2

/-- What the launch deals a device: its cells' states, positions and first rounds, and their tokens. -/
def G (c : Dev nD) : sProp 𝕄 :=
  iprop((bigSep Finset.univ fun i : CI => roundState ER (rd m) (cell c i) 0)
    ∗ (bigSep Finset.univ fun i : CI => iprop(atPos ER (cell c i) 0 ∅ 0 ∗ reached ER (cell c i) 0)) ∗ bigSep Finset.univ fun t : TI => tokAt (c, t))

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun i : CI => Φ (cell c i) := by
    unfold meshCells; rw [bigSep_map, bigSep_univ_prod]; rfl
  have hT : bigSep meshToks (fun x => (dutyTok ER x.1 x.2.1 x.2.2 : sProp 𝕄)) = bigSep Finset.univ fun c : Dev nD => bigSep Finset.univ fun t : TI => tokAt (c, t) := by
    unfold meshToks; rw [bigSep_map, bigSep_univ_prod]; rfl
  iintro HX
  imod (Rounds.fund ER (rd m) meshCells meshToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The kernel's own semaphores: the transfers' cells, then the local copies'. -/
abbrev osem : XI ⊕ (Fin 2 × Fin 4) ⊕ (Fin 2 × Fin 4) → SemLoc sig
  | .inl x => csem (some x)
  | .inr (.inl t) => .dma (winS t.1 t.2)
  | .inr (.inr t) => .dma (woutS t.1 t.2)

theorem ownSems0_eq (c : Dev nD) : (Pipeline.ownSems0 (Ix := Unit) (Name := ℕ) (U := UU) (Lvl := ℕ) (Val := Elt F) (τ := τ) osem c : sProp 𝕄)
    = iprop((bigSep Finset.univ fun x : XI => semVal (cell c (some x)) 0) ∗ localZ c) := by
  unfold Pipeline.ownSems0
  rw [bigSep_plus, bigSep_plus]; rfl

theorem unscopedSems0_eq (c : Dev nD) : (unscopedSems0 c : sProp 𝕄) = semVal (cell c none) 0 := by
  unfold unscopedSems0; rw [bigSep_eq_bigSepL_of_eq [SemLoc.reg barS] (by decide) (by decide)]; rfl

theorem zs_eq (c : Dev nD) (b : Bool) : (bigSep Finset.univ fun x : Fin 3 × Fin 2 × Fin 3 => (semVal (cell c (some (b, x))) 0 : sProp 𝕄))
    = iprop((zs c b 0 0 ∗ zs c b 0 1) ∗ (zs c b 1 0 ∗ zs c b 1 1) ∗ (zs c b 2 0 ∗ zs c b 2 1)) :=
  bigSep_halves _ (fun l h => zs c b l h) fun l h => rfl

theorem zs_in (c : Dev nD) : zsAll c false ⊢ iprop(zsAll c true -∗ bigSep Finset.univ fun x : XI => (semVal (cell c (some x)) 0 : sProp 𝕄)) := by
  rw [bigSep_XI fun x : XI => (semVal (cell c (some x)) 0 : sProp 𝕄), zs_eq, zs_eq]
  iintro ⟨A0, A1, A2, A3, A4, A5⟩ ⟨B0, B1, B2, B3, B4, B5⟩
  isplitl [A0 A1 A2 A3 A4 A5]
  · isplitl [A0 A1]; · isplitl [A0] <;> iassumption
    isplitl [A2 A3]; · isplitl [A2] <;> iassumption
    isplitl [A4] <;> iassumption
  · isplitl [B0 B1]; · isplitl [B0] <;> iassumption
    isplitl [B2 B3]; · isplitl [B2] <;> iassumption
    isplitl [B4] <;> iassumption

/-! ## Allocating the cells -/

/-- Where a token goes: a barrier's and a receive cell's to the device that pays it. -/
def twist : Dev nD × TI → Dev nD × TI
  | (c, .inl j) => (pr j c, .inl (inv j))
  | (c, .inr (true, l, h, j)) => (pr j c, .inr (true, l, h, inv j))
  | (c, .inr (false, x)) => (c, .inr (false, x))

theorem twist_twist : Function.Involutive twist := by
  rintro ⟨c, j | ⟨_ | _, l, h, j⟩⟩
  · dsimp only [twist]; rw [pr_inv, inv_inv]
  · rfl
  · dsimp only [twist]; rw [pr_inv, inv_inv]

/-- What is a device's alone before the tokens are dealt, and after. -/
def zeroPos (c : Dev nD) : sProp 𝕄 := iprop(localZ c ∗ bigSep Finset.univ fun i : CI => atPos ER (cell c i) 0 ∅ 0)
def minted (c : Dev nD) : sProp 𝕄 := bigSep Finset.univ fun t : TI => tokAt (c, t)
def paying (c : Dev nD) : sProp 𝕄 := bigSep Finset.univ fun t : TI => tokAt (twist (c, t))
def linear0 (c : Dev nD) : sProp 𝕄 := iprop(zeroPos c ∗ minted c)
def linear (c : Dev nD) : sProp 𝕄 := iprop(zeroPos c ∗ paying c)

/-- What the allocation of all cells leaves device `c`. -/
def G' (c : Dev nD) : sProp 𝕄 := iprop(∃ K, recs m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (rd m) κ (cell c i) ∗ reached ER (cell c i) 0)) ∗ linear0 c) := by
  unfold G linear0 zeroPos minted
  rw [ownSems0_eq, unscopedSems0_eq, bigSep_sep' Finset.univ (fun i : CI => (atPos ER (cell c i) 0 ∅ 0 : sProp 𝕄)) (fun i => reached ER (cell c i) 0)]
  iintro ⟨⟨Hx, Hz⟩, Hb, Hst, ⟨Hat, Hr⟩, Htok⟩
  ihave Hv := (Entails.of_eq (bigSep_cells fun i => (semVal (cell c i) 0 : sProp 𝕄)).symm) $$ [Hx Hb]
  · isplitl [Hx] <;> iassumption
  imod (show iprop(((bigSep Finset.univ fun i : CI => semVal (cell c i) 0) ∗ bigSep Finset.univ fun i : CI => roundState ER (rd m) (cell c i) 0)
        ∗ bigSep Finset.univ fun i : CI => reached ER (cell c i) 0)
      ⊢ (|={Set.univ}=> bigSep Finset.univ fun i : CI => iprop(∃ κ : ℕ, cellInv ER (rd m) κ (cell c i) ∗ reached ER (cell c i) 0) : sProp 𝕄) from by
        rw [← bigSep_sep', ← bigSep_sep']
        exact (bigSep_mono fun i _ => show iprop((semVal (cell c i) 0 ∗ roundState ER (rd m) (cell c i) 0) ∗ reached ER (cell c i) 0)
            ⊢ (|={Set.univ}=> iprop(∃ κ : ℕ, cellInv ER (rd m) κ (cell c i) ∗ reached ER (cell c i) 0) : sProp 𝕄) from by
          iintro ⟨H, Hr⟩
          imod ((Rounds.body_intro ER (rd m) (cell c i)).trans inv_alloc) $$ H with ⟨%κ, HI⟩
          imodintro
          iexists κ
          isplitl [HI]; · iexact HI
          iexact Hr).trans (bigSep_fupd _ _)) $$ [Hv Hst Hr] with Hinv
  · isplitl [Hv Hst]
    · isplitl [Hv] <;> iassumption
    iexact Hr
  imodintro
  isplitl [Hinv]; · iexact Hinv
  isplitl [Hz Hat]
  · isplitl [Hz] <;> iassumption
  iexact Htok

theorem dealt : (bigSep Finset.univ fun c : Dev nD => (linear0 c : sProp 𝕄)) ⊢ bigSep Finset.univ fun c : Dev nD => linear c := by
  have e : (bigSep Finset.univ fun c : Dev nD => (minted c : sProp 𝕄)) = bigSep Finset.univ fun c : Dev nD => paying c := by
    unfold minted paying
    rw [← bigSep_univ_prod (fun ct : Dev nD × TI => (tokAt ct : sProp 𝕄)),
      ← bigSep_univ_prod (fun ct : Dev nD × TI => (tokAt (twist ct) : sProp 𝕄)), bigSep_univ_equiv twist_twist.toPerm (fun ct : Dev nD × TI => (tokAt ct : sProp 𝕄))]
    rfl
  unfold linear0 linear
  rw [bigSep_sep', bigSep_sep', e]

theorem regroup :
    (bigSep Finset.univ fun c : Dev nD => iprop((bigSep Finset.univ fun i : CI => iprop(∃ κ : ℕ, cellInv ER (rd m) κ (cell c i) ∗ reached ER (cell c i) 0))
        ∗ linear0 c) : sProp 𝕄) ⊢ bigSep Finset.univ (G' m) := by
  rw [bigSep_sep', ← bigSep_univ_prod (fun ci : Dev nD × CI => iprop(∃ κ : ℕ, cellInv ER (rd m) κ (cell ci.1 ci.2) ∗ reached ER (cell ci.1 ci.2) 0))]
  iintro ⟨HI, Hlin⟩
  ihave HK := (BI.bigSep_exists_pi Finset.univ (fun (ci : Dev nD × CI) (κ : ℕ) =>
    (iprop(cellInv ER (rd m) κ (cell ci.1 ci.2) ∗ reached ER (cell ci.1 ci.2) 0) : sProp 𝕄))) $$ HI
  icases HK with ⟨%K, HK⟩
  ihave HK := (Entails.of_eq (show (bigSep Finset.univ fun ci : Dev nD × CI => iprop(cellInv ER (rd m) (K ci) (cell ci.1 ci.2) ∗ reached ER (cell ci.1 ci.2) 0)) = recs m K from rfl)) $$ HK
  ihave Hlin := (dealt (F := F)) $$ Hlin
  iapply ((sep_mono_left (BI.bigSep_of_persistent (Finset.univ : Finset (Dev nD)) (recs m K))).trans (by
    rw [← bigSep_sep']
    exact bigSep_mono fun c _ => show iprop(recs m K ∗ linear c) ⊢ G' m c from by
      unfold G'
      iintro H
      iexists K
      iexact H))
  isplitl [HK] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits the launch hands out -/

/-- Where a payment goes. -/
def tgt (d : Dev nD) : Pay → Dev nD × CI
  | .sig j => (pr j d, none)
  | .xfer l h j => (pr j d, some (true, l, h, inv j))
def O₀ (d : Dev nD) : CellTallies nD τ sig Unit := ow d payList

theorem ow_apply (d c : Dev nD) (i : CI) (ps : List Pay) :
    ow d ps (cell c i) () = ((ps.filter fun p => decide (tgt d p = (c, i))).map payAmt).sum := by
  induction ps with
  | nil => rfl
  | cons p ps ih =>
    have e : payCell d p = (fun ci : Dev nD × CI => cell ci.1 ci.2) (tgt d p) := by cases p <;> rfl
    unfold ow tal
    rw [Pi.add_apply, Finsupp.add_apply, tallyAt_apply, ih]
    by_cases h : tgt d p = (c, i)
    · rw [if_pos ⟨by rw [e, h], rfl⟩, List.filter_cons_of_pos (by simpa using h), List.map_cons, List.sum_cons, Nat.add_comm]
    · rw [if_neg (fun h' => h (cell_injective (e.symm.trans h'.1.symm))), List.filter_cons_of_neg (by simpa using h), Nat.add_zero]

theorem owed_bar : ∀ c : Dev nD, ∑ d : Dev nD, ((payList.filter fun p => decide (tgt d p = (c, none))).map payAmt).sum = 3 := by decide
theorem owed_recv : ∀ (d c : Dev nD) (l : Fin 3) (h : Fin 2) (s : Fin 3), (payList.filter fun p => decide (tgt d p = (c, some (true, l, h, s))))
    = if d = pr s c then [.xfer l h (inv s)] else [] := by decide +kernel

theorem launch_bar (c : Dev nD) :
    tallyOn (cell c none) (launchCredit (Pipeline.owing O₀) 0 (cell c none)) = (tallyAt (cell c none) () 3 : CellTallies nD τ sig Unit) := by
  unfold tallyAt; refine congrArg _ (Finsupp.ext fun u => ?_); cases u
  rw [Pipeline.launchCredit_owing, Finsupp.single_eq_same]
  exact (Finset.sum_congr rfl fun d _ => ow_apply d c none payList).trans (owed_bar c)

theorem launch_recv (c : Dev nD) (l : Fin 3) (h : Fin 2) (s : Fin 3) :
    tallyOn (cell c (some (true, l, h, s))) (launchCredit (Pipeline.owing O₀) 0 (cell c (some (true, l, h, s))))
      = (tallyAt (cell c (some (true, l, h, s))) () (amt l) : CellTallies nD τ sig Unit) := by
  unfold tallyAt; refine congrArg _ (Finsupp.ext fun u => ?_); cases u
  rw [Pipeline.launchCredit_owing, Finsupp.single_eq_same]
  refine (Finset.sum_congr rfl fun d _ => show O₀ d (cell c (some (true, l, h, s))) () = if d = pr s c then amt l else 0 from ?_).trans
    ((Finset.sum_ite_eq' Finset.univ (pr s c) fun _ => amt l).trans (if_pos (Finset.mem_univ _)))
  refine (ow_apply d c _ payList).trans ?_
  rw [owed_recv]
  split
  · exact Nat.add_zero _
  · rfl

/-- The credits of a device's barrier and arrivals. -/
def creds (c : Dev nD) : sProp 𝕄 :=
  iprop(cred (tallyAt (cell c none) () 3) ∗ bigSep Finset.univ fun x : Fin 3 × Fin 2 × Fin 3 => cred (tallyAt (cell c (some (true, x))) () (amt x.1)))

theorem creds_intro (c : Dev nD) : (Pipeline.launchCred O₀ c : sProp 𝕄) ⊢ creds c := by
  unfold Pipeline.launchCred creds
  iintro H
  ihave H := (show (bigSep Finset.univ (fun sm : SemLoc sig => cred (tallyOn (((c : Thread nD τ)), sm) (launchCredit (Pipeline.owing O₀) 0 ((c : Thread nD τ), sm)))) : sProp 𝕄)
    ⊢ bigSep (Finset.univ.map ⟨csem, csem_injective⟩) fun sm => cred (tallyOn ((c : Thread nD τ), sm) (launchCredit (Pipeline.owing O₀) 0 ((c : Thread nD τ), sm)))
    from bigSep_subset (Finset.subset_univ _)) $$ H
  ihave H := (Entails.of_eq ((bigSep_map _).trans ((bigSep_cells _).trans (congrArg (fun z : sProp 𝕄 => iprop(z ∗ _)) (bigSep_XI _))))) $$ H
  icases H with ⟨⟨-, Hr⟩, Hb⟩
  isplitl [Hb]
  · iapply (Entails.of_eq (congrArg (fun z => (cred z : sProp 𝕄)) (launch_bar c))); iexact Hb
  · iapply (Entails.of_eq (bigSep_congr fun (x : Fin 3 × Fin 2 × Fin 3) _ => congrArg (fun z => (cred z : sProp 𝕄)) (launch_recv c x.1 x.2.1 x.2.2))); iexact Hr

/-! ## What the body starts from -/

theorem toks_in (c : Dev nD) :
    iprop((bigSep Finset.univ fun x : Fin 3 × Fin 2 × Fin 3 => (tokAt (twist (c, .inr (false, x))) : sProp 𝕄))
      ∗ (bigSep Finset.univ fun x : Fin 3 × Fin 2 × Fin 3 => (tokAt (twist (c, .inr (true, x))) : sProp 𝕄))
      ∗ bigSep Finset.univ fun x : Fin 3 × Fin 2 × Fin 3 => (atPos ER (cell c (some (false, x))) 0 ∅ 0 : sProp 𝕄))
    ⊢ iprop(toks c 0 ∗ toks c 1 ∗ toks c 2) := by
  rw [← bigSep_sep', ← bigSep_sep', bigSep_halves _ (fun l h => iprop(sTok c l h 0 ∗ sTok c l h 1 ∗ sTok c l h 2)) fun l h => rfl]
  unfold toks
  iintro ⟨⟨⟨A0, A1, A2⟩, B0, B1, B2⟩, ⟨⟨C0, C1, C2⟩, D0, D1, D2⟩, ⟨E0, E1, E2⟩, F0, F1, F2⟩
  isplitl [A0 B0 C0 D0 E0 F0]
  · isplitl [A0]; · iexact A0
    isplitl [B0]; · iexact B0
    isplitl [C0]; · iexact C0
    isplitl [D0]; · iexact D0
    isplitl [E0] <;> iassumption
  isplitl [A1 B1 C1 D1 E1 F1]
  · isplitl [A1]; · iexact A1
    isplitl [B1]; · iexact B1
    isplitl [C1]; · iexact C1
    isplitl [D1]; · iexact D1
    isplitl [E1] <;> iassumption
  isplitl [A2]; · iexact A2
  isplitl [B2]; · iexact B2
  isplitl [C2]; · iexact C2
  isplitl [D2]; · iexact D2
  isplitl [E2] <;> iassumption

theorem dues_in (c : Dev nD) :
    iprop((bigSep Finset.univ fun x : Fin 3 × Fin 2 × Fin 3 => (cred (tallyAt (cell c (some (true, x))) () (amt x.1)) : sProp 𝕄))
      ∗ bigSep Finset.univ fun x : Fin 3 × Fin 2 × Fin 3 => (atPos ER (cell c (some (true, x))) 0 ∅ 0 : sProp 𝕄))
    ⊢ duesAll c := by
  rw [← bigSep_sep', bigSep_halves _ (fun l h => dues c l h) fun l h => rfl]
  iintro ⟨⟨A, B⟩, ⟨C, D⟩, E, H⟩
  isplitl [A]; · iexact A
  isplitl [B]; · iexact B
  isplitl [C]; · iexact C
  isplitl [D]; · iexact D
  isplitl [E] <;> iassumption

theorem deal (c : Dev nD) : linear c ⊢ iprop(creds c -∗
    ((localZ c : sProp 𝕄) ∗ sigs c ∗ hold c none ∗ (toks c 0 ∗ toks c 1 ∗ toks c 2) ∗ duesAll c)) := by
  unfold linear zeroPos paying creds
  rw [bigSep_cells fun i => (atPos ER (cell c i) 0 ∅ 0 : sProp 𝕄), bigSep_XI fun x : XI => (atPos ER (cell c (some x)) 0 ∅ 0 : sProp 𝕄),
    bigSep_plus, bigSep_three, bigSep_XI fun x : XI => (tokAt (twist (c, .inr x)) : sProp 𝕄)]
  iintro ⟨⟨Hz, ⟨Pf, Pt⟩, Pn⟩, ⟨S0, S1, S2⟩, Tf, Tt⟩ ⟨Cn, Ct⟩
  isplitl [Hz]; · iexact Hz
  isplitl [S0 S1 S2]
  · isplitl [S0]; · iexact S0
    isplitl [S1]; · iexact S1
    iexact S2
  isplitl [Cn Pn]
  · unfold hold
    isplitl [Cn]; · iexact Cn
    iexact Pn
  isplitl [Tf Tt Pf]
  · iapply (toks_in c)
    isplitl [Tf]; · iexact Tf
    isplitl [Tt] <;> iassumption
  · iapply (dues_in c)
    isplitl [Ct] <;> iassumption

end Cert.KernelIdeal.Mlp
-- ==== Proof.Run.lean ====
/-
# The run of the whole mesh
-/
module

public import proofs.«01_k».proof.Proof.Launch
public import proofs.«01_k».proof.Proof.Gen.KernelIdeal.Points
public import Idealize.ShloMosaic.Adequacy
public import Idealize.ShloMosaic.Init
public import Idealize.ShloMosaic.Lib.Pipeline.CollectiveSegs

@[expose] public section

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (m : (ℓ : Loc nD τ sig) → Buf (Elt F) ℓ) (ρ : Dev nD → PrngReg)

/-- Where the program starts: the memory given, every counter at zero. -/
def s₀ : MemSt nD τ sig (Elt F) := ⟨m, fun _ => 0, ρ⟩

/-! ## What is handed from the launch to the body and back -/

/-- What device `c`'s body starts from. -/
def start (c : Dev nD) : sProp 𝕄 := iprop(G' m c ∗ creds c ∗ levAts L lv ∗ srcs m c)

def Φ₀ (c : Dev nD) : sProp 𝕄 := iprop(start m c ∗ bufs c)
/-- What it ends with: its buffers back, and every counter at zero. -/
def Φ₁ (c : Dev nD) : sProp 𝕄 := iprop(bufs c ∗ localZ c ∗ zsAll c false ∗ zsAll c true ∗ semVal (cell c none) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem before_x (c : Dev nD) (d : (cc0_stg0_0 : Ref sig .tc).ty.Contents (Elt F)) :
    (dats m ρ 0 c).before (0 : Fin 2) t0_0 d = xst m c := by
  unfold Dat.before; rw [if_pos (fetch0_0 t0_0)]; rfl

theorem owes_in (c : Dev nD) : (dats m ρ 0 c).owesAt () t0_0.castSucc ⊢ (Ow c 0 : sProp 𝕄) := by
  unfold Dat.owesAt Pipeline.owesWithin Ow
  iintro ⟨%W, %hW, HO⟩
  iexists W
  iexact HO

theorem owes_out (c : Dev nD) : (Ow c 21 : sProp 𝕄) ⊢ (dats m ρ 0 c).owesAt () t0_0.succ := by
  unfold Dat.owesAt Pipeline.owesWithin Ow
  iintro ⟨%W, HO⟩
  iexists W
  isplitr; · ipureintro; exact fun _ _ => Or.inl trivial
  iexact HO

set_option maxRecDepth 4000 in
/-- The pipeline's obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  have e0 : defs₀ (F := F) Proc.tc 0 (t0_0, cfg0.slots t0_0) = bodyAt0 t0_0 := rfl
  have e1 : (dats m ρ 0 c).Φ t0_0.castSucc = Φ₀ m c := rfl
  have e2 : (dats m ρ 0 c).Φ t0_0.succ = Φ₁ c := rfl
  have e3 : (dats m ρ 0 c).after 0 t0_0 = xst m c := rfl
  have e4 : (dats m ρ 0 c).after 1 t0_0 = out m c := rfl
  rw [e0, e1, e2, e3, e4]
  have e5 : bodyAt0 (F := F) t0_0 = onBufs (cc0_body (F := F)) := rfl
  rw [e5]
  unfold Φ₀ start G'
  iintro ⟨⟨⟨⟨%K, #HI, Hlin⟩, Hcr, #HL, Hsrc⟩, Hbuf⟩, Ho, ⟨%dx, %gx, %hx, Hx⟩, %dy, %gy, %hy, Hy⟩
  ihave Hd := (deal c) $$ Hlin Hcr
  icases Hd with ⟨HZ, Hsig, Hbar, ⟨T0, T1, T2⟩, Hdue⟩
  ihave Ho := (owes_in m ρ c) $$ Ho
  rw [hx, before_x]
  iapply (body_run m K c) $$ [] Hsrc Hbuf HZ Hsig Hbar T0 T1 T2 Hdue Hx Hy Ho
  · unfold Ctx; isplit
    · iexact HI
    iexact HL
  iintro Hbuf HZ Hb Hf Ht Hx Hy Ho
  unfold Φ₁
  isplitl [Hbuf HZ Hb Hf Ht]
  · isplitl [Hbuf]; · iexact Hbuf
    isplitl [HZ]; · iexact HZ
    isplitl [Hf]; · iexact Hf
    isplitl [Ht]; · iexact Ht
    iexact Hb
  isplitl [Ho]
  · iapply (owes_out m ρ c) $$ Ho
  isplitl [Hx]
  · iexists _; isplitr; · (ipureintro; rfl)
    iexact Hx
  iexists _; isplitr; · (ipureintro; rfl)
  iexact Hy

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    have h0 : ∀ p ∈ payList, lvS (.dma ((cfg0.win w).sem s)) < lvP p := by
      revert w s; decide
    rcases t with ⟨_ | _, ht⟩
    · exact mayWait c _ payList h0
    · exact mayWait c _ [] fun p hp => absurd hp (List.not_mem_nil)

/-- The weights, as the launch hands them over. -/
def weights : List (Ref sig .tc) := [main_arg1, main_arg2, main_arg3, main_arg4, main_arg5, main_arg6]

/-- Half of every weight stays behind while the body runs. -/
def kept (c : Dev nD) : sProp 𝕄 := bigSep weights.toFinset fun b => ((c : Thread nD τ).loc b) ↦{fullShare.left} m ((c : Thread nD τ).loc b)

theorem kept_eq (c : Dev nD) : kept m c = iprop((((c : Thread nD τ).loc main_arg1) ↦{fullShare.left} m ((c : Thread nD τ).loc main_arg1))
    ∗ (((c : Thread nD τ).loc main_arg2) ↦{fullShare.left} m ((c : Thread nD τ).loc main_arg2))
    ∗ (((c : Thread nD τ).loc main_arg3) ↦{fullShare.left} m ((c : Thread nD τ).loc main_arg3))
    ∗ (((c : Thread nD τ).loc main_arg4) ↦{fullShare.left} m ((c : Thread nD τ).loc main_arg4))
    ∗ (((c : Thread nD τ).loc main_arg5) ↦{fullShare.left} m ((c : Thread nD τ).loc main_arg5))
    ∗ (((c : Thread nD τ).loc main_arg6) ↦{fullShare.left} m ((c : Thread nD τ).loc main_arg6))) := by
  unfold kept
  exact bigSep_eq_bigSepL weights (by decide) _

theorem src_intro (c : Dev nD) (b : Ref sig .tc) (f : Buf (Elt F) ((c : Thread nD τ).loc b)) :
    (((c : Thread nD τ).loc b) ↦{fullShare.right} f : sProp 𝕄) ⊢ src c (Memref.whole b) f := by
  have e : (Memref.whole b).view.set = Finset.univ := View.set_whole b
  iintro H; iexists fullShare.right; rw [e]; iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq, kept_eq]
  unfold start
  have half (b : Ref sig .tc) (f : Buf (Elt F) ((c : Thread nD τ).loc b)) : (((c : Thread nD τ).loc b) ↦{fullShare} f : sProp 𝕄)
      ⊢ iprop((((c : Thread nD τ).loc b) ↦{fullShare.left} f) ∗ src c (Memref.whole b) f) := by
    iintro H
    ihave H := (pointsTo_share (PosShare.mem_left_op_right fullShare)).1 $$ H
    icases H with ⟨Hl, Hr⟩
    isplitl [Hl]; · iexact Hl
    iapply (src_intro c b f) $$ Hr
  iintro ⟨⟨H1, H2, H3, H4, H5, H6⟩, Hlev, Hcr, -, HG⟩
  ihave Hcr := (creds_intro c) $$ Hcr
  ihave H1 := (half _ _) $$ H1; icases H1 with ⟨A1, B1⟩
  ihave H2 := (half _ _) $$ H2; icases H2 with ⟨A2, B2⟩
  ihave H3 := (half _ _) $$ H3; icases H3 with ⟨A3, B3⟩
  ihave H4 := (half _ _) $$ H4; icases H4 with ⟨A4, B4⟩
  ihave H5 := (half _ _) $$ H5; icases H5 with ⟨A5, B5⟩
  ihave H6 := (half _ _) $$ H6; icases H6 with ⟨A6, B6⟩
  imodintro
  isplitr [A1 A2 A3 A4 A5 A6]
  · isplitl [HG]; · iexact HG
    isplitl [Hcr]; · iexact Hcr
    isplitl [Hlev]; · iexact Hlev
    isplitl [B1]; · iexact B1
    isplitl [B2]; · iexact B2
    isplitl [B3]; · iexact B3
    isplitl [B4]; · iexact B4
    isplitl [B5]; · iexact B5
    iexact B6
  isplitl [A1]; · iexact A1
  isplitl [A2]; · iexact A2
  isplitl [A3]; · iexact A3
  isplitl [A4]; · iexact A4
  isplitl [A5]; · iexact A5
  iexact A6

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hb, HZ, Hf, Ht, Hn⟩
  isplitl [Hn]; · iexact Hn
  isplitr [Hb]
  · isplitr [HZ]
    · iapply (zs_in c) $$ Hf Ht
    iexact HZ
  iexact Hb

/-! ## The run -/

/-- What the launch's end tells of a window's array. -/
def finalA (c : Dev nD) (w : Fin cfg0.W) : Buf (Elt F) ((cfg0.win w).arr.view.loc (c : Thread nD τ)) := (dats m ρ 0 c).arrAt w cfg0.N

theorem finalA_x (c : Dev nD) : finalA m ρ c (0 : Fin 2) = m ((c : Thread nD τ).loc main_arg0) :=
  (dats (F := F) m ρ 0 c).arrAt_in (0 : Fin 2) rfl _

theorem xst_eq (c : Dev nD) : xst m c = m ((c : Thread nD τ).loc main_arg0) :=
  Memref.read_access_unit_zero (Elt F) main_arg0 (funext fun a => by fin_cases a <;> rfl) (fun a => by fin_cases a <;> decide) _

theorem finalA_o (c : Dev nD) : finalA m ρ c (1 : Fin 2) = out m c := by
  have h : (win0_1.blk (0 : Fin 1)).view.read (Elt F) (finalA m ρ c (1 : Fin 2)) = out m c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [← h]
  exact (Memref.read_access_unit_zero (Elt F) main_v1 (funext fun a => by fin_cases a <;> rfl) (fun a => by fin_cases a <;> decide) _).symm

/-- The arguments of device `c` in a memory are those of `m`. -/
def Same (mem : (ℓ : Loc nD τ sig) → Buf (Elt F) ℓ) (c : Dev nD) : Prop :=
  mem ((c : Thread nD τ).loc main_arg0) = m ((c : Thread nD τ).loc main_arg0)
  ∧ mem ((c : Thread nD τ).loc main_arg1) = m ((c : Thread nD τ).loc main_arg1)
  ∧ mem ((c : Thread nD τ).loc main_arg2) = m ((c : Thread nD τ).loc main_arg2)
  ∧ mem ((c : Thread nD τ).loc main_arg3) = m ((c : Thread nD τ).loc main_arg3)
  ∧ mem ((c : Thread nD τ).loc main_arg4) = m ((c : Thread nD τ).loc main_arg4)
  ∧ mem ((c : Thread nD τ).loc main_arg5) = m ((c : Thread nD τ).loc main_arg5)
  ∧ mem ((c : Thread nD τ).loc main_arg6) = m ((c : Thread nD τ).loc main_arg6)

set_option maxRecDepth 8000 in
/-- On the mesh of four devices, for any float values and from any memory with zero counters, every weakly fair execution
    ends, with each device's result array at `out`, its arguments unchanged and every counter at zero. -/
theorem run_main : θ_run defs (onTc (τ := τ) (main (F := F))) (s₀ m ρ)
    (fun r => (∀ c : Dev nD, r.2.mem ((c : Thread nD τ).loc main_v1) = out m c ∧ Same m r.2.mem c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ weights.toFinset, s.mem ((c : Thread nD τ).loc b) = m ((c : Thread nD τ).loc b))
    (hY := fun c s' => by
      iintro ⟨Hu, Hk, HSI⟩
      unfold kept
      ihave H := (pointsTo_read_all weights.toFinset (fun b => (c : Thread nD τ).loc b) (fun b => m ((c : Thread nD τ).loc b)) s' fullShare.left) $$ [Hk HSI]
      · isplitl [Hk] <;> iassumption
      icases H with ⟨%hw, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hw⟩
      iexact HSI)
    (hQ := fun r h hs => ⟨fun c =>
      have hw := (h c).2.2.2
      ⟨((h c).1 (1 : Fin 2)).trans (finalA_o m ρ c), ((h c).1 (0 : Fin 2)).trans (finalA_x m ρ c),
        hw main_arg1 (by decide), hw main_arg2 (by decide), hw main_arg3 (by decide), hw main_arg4 (by decide), hw main_arg5 (by decide), hw main_arg6 (by decide)⟩,
      sem_eq_zero hs fun c => (h c).2.2.1⟩)

end Cert.KernelIdeal.Mlp

end
-- ==== Proof.Layer.lean ====
/-
# One layer over the extended reals

At the idealized values a rounding is the identity and a product of matrices is a sum, so each payload of the kernel is
read at an index as a plain expression. This module states a layer as mathematics (`layer`), cuts its long sum into the
four devices' shares (`share`), and shows that what the kernel computes of a layer is a share, and that the four shares
that a device adds up are the layer.
-/
module

public import proofs.«01_k».proof.Proof.Vals
public import Idealize.ShloMosaic.Lib.Pointwise

@[expose] public section

set_option maxRecDepth 16384

noncomputable section

namespace Cert.KernelIdeal.Mlp

open Cert.KernelIdeal Cert.KernelIdeal.Gen
open Idealize.ShloMosaic Idealize.ShloMosaic.TcCoe

/-! ## The mathematics -/

/-- A matrix of extended reals. -/
abbrev Mat (a b : Nat) : Type := (⟨2, ![a, b]⟩ : Shape).Idx → EReal

/-- The product of the activations with the first weight matrix, at row `i` and column `k`; -/
def pre (X : Mat 64 1024) (W : Mat 1024 8192) (i : Fin 64) (k : Fin 8192) : EReal :=
  ∑ d : Fin 1024, X (ix2 i d) * W (ix2 d k)

/-- one term of the second product; -/
def term (X : Mat 64 1024) (W : Mat 1024 8192) (V : Mat 8192 1024) (i : Fin 64) (j : Fin 1024) (k : Fin 8192) : EReal :=
  max (pre X W i k) 0 * V (ix2 k j)

/-- a layer: the positive part of the first product, times the second weight matrix. -/
def layer (X : Mat 64 1024) (W : Mat 1024 8192) (V : Mat 8192 1024) : Mat 64 1024 :=
  fun i => ∑ k : Fin 8192, term X W V (i 0) (i 1) k

/-- Column `k` of device `c`'s block, among all columns. -/
def col (c : Dev nD) (k : Fin 2048) : Fin 8192 :=
  ⟨2048 * c.val + k.val, by have h : c.val < 4 := c.2; have := k.2; omega⟩

/-- Device `c`'s share of a layer: the terms of its own block. -/
def share (X : Mat 64 1024) (W : Mat 1024 8192) (V : Mat 8192 1024) (c : Dev nD) (i : Fin 64) (j : Fin 1024) : EReal :=
  ∑ k : Fin 2048, term X W V i j (col c k)

/-- A long sum, cut into four blocks of equal length. -/
theorem sum_four {n N : Nat} (h : N = 4 * n) (g : Fin N → EReal) :
    ∑ k : Fin N, g k
      = ∑ c : Fin 4, ∑ k : Fin n, g ⟨n * c.val + k.val, by
          have h1 := c.2; have h2 := k.2; subst h
          have : n * c.val ≤ n * 3 := Nat.mul_le_mul_left _ (by omega)
          omega⟩ := by
  subst h
  rw [← Equiv.sum_comp finProdFinEquiv, Fintype.sum_prod_type]
  refine Finset.sum_congr rfl fun c _ => Finset.sum_congr rfl fun k _ => congrArg g (Fin.ext ?_)
  show k.val + n * c.val = n * c.val + k.val
  omega

/-- A layer is the sum of the shares, -/
theorem layer_eq (X : Mat 64 1024) (W : Mat 1024 8192) (V : Mat 8192 1024) (i : Fin 64) (j : Fin 1024) :
    layer X W V (ix2 i j) = ∑ c : Dev nD, share X W V c i j :=
  sum_four (n := 2048) rfl (term X W V i j)

/-- and the order in which a device meets the shares (its own, then its partners') does not matter. -/
theorem sum_partners (g : Dev nD → EReal) (c : Dev nD) :
    g c + g (pr 0 c) + g (pr 1 c) + g (pr 2 c) = ∑ d : Dev nD, g d := by
  have e : ∑ d : Dev nD, g d = g 0 + g 1 + g 2 + g 3 := Fin.sum_univ_four g
  rw [e]
  match c with
  | 0 => show g 0 + g 3 + g 1 + g 2 = _; ac_rfl
  | 1 => show g 1 + g 0 + g 2 + g 3 = _; ac_rfl
  | 2 => show g 2 + g 1 + g 3 + g 0 = _; ac_rfl
  | 3 => show g 3 + g 2 + g 0 + g 1 = _; ac_rfl

/-! ## What the loads read, at an index -/

/-- A load of a rectangle of a whole buffer reads the element that lies at the rectangle's offset plus the index. -/
theorem read_unit {F : FTy → Type} {sp : Space} {s : Shape} {e : EltTy} (v : View sig .tc sp s e)
    {off size : Fin s.rank → Nat} (inb : ∀ a, off a + size a ≤ s.size a) (f : s.Idx → Elt F e)
    (g : v.ty.Contents (Elt F)) (hf : v.read (Elt F) g = f)
    (x : (Rect.unit off size inb).shape.Idx) (y : s.Idx) (h : ∀ a, (y a).val = off a + (x a).val) :
    v.readAt (Elt F) (Rect.unit off size inb).toLoadRect g x = f y := by
  subst hf
  rw [View.readAt_eq_ld]
  show v.read (Elt F) g _ = v.read (Elt F) g y
  congr 1
  funext a
  apply Fin.ext
  rw [h a]
  show off a + 1 * (x a).val = _
  omega

section Reads
variable {F : FTy → Type} [FloatOps F] (m : (ℓ : Loc nD τ sig) → Buf (Elt F) ℓ) (c : Dev nD)

theorem winF_apply (l : Fin 3) (s : Fin 2) (i : Fin 1024) (j : Fin 2048) :
    winF m l c (ix3 s i j) = win m l c (ix2 i j) := rfl
theorem woutF_apply (l : Fin 3) (s : Fin 2) (i : Fin 2048) (j : Fin 1024) :
    woutF m l c (ix3 s i j) = wout m l c (ix2 i j) := rfl

theorem rdX_apply (f : S64x1024.Idx → Elt F .f32) (i : Fin 64) (j : Fin 1024) : rdX c f (ix2 i j) = f (ix2 i j) := by
  refine read_unit _ _ f _ rfl _ _ fun a => ?_
  match a with
    | ⟨0, _⟩ => exact (Nat.zero_add _).symm
    | ⟨1, _⟩ => exact (Nat.zero_add _).symm

theorem rdPiece_apply (l : Fin 3) (k : Fin 4) (i : Fin 256) (j : Fin 2048) :
    rdPiece c k (winF m l c) (ix3 0 i j) = win m l c (ix2 ⟨256 * k.val + i.val, by omega⟩ j) := by
  rw [← winF_apply m c l 0]
  match k with
  | 0 | 1 | 2 | 3 =>
    refine read_unit _ _ (winF m l c) _ rfl _ _ fun a => ?_
    match a with
      | ⟨0, _⟩ => exact rfl
      | ⟨1, _⟩ => exact rfl
      | ⟨2, _⟩ => exact (Nat.zero_add _).symm

theorem rdWin_apply (l : Fin 3) (s : Fin 2) (i : Fin 1024) (j : Fin 2048) :
    rdWin c s (winF m l c) (ix3 0 i j) = win m l c (ix2 i j) := by
  rw [← winF_apply m c l s]
  match s with
  | 0 | 1 =>
    refine read_unit _ _ (winF m l c) _ rfl _ _ fun a => ?_
    match a with
      | ⟨0, _⟩ => exact rfl
      | ⟨1, _⟩ => exact (Nat.zero_add _).symm
      | ⟨2, _⟩ => exact (Nat.zero_add _).symm

theorem rdWout_apply (l : Fin 3) (s : Fin 2) (i : Fin 2048) (j : Fin 1024) :
    rdWout c s (woutF m l c) (ix3 0 i j) = wout m l c (ix2 i j) := by
  rw [← woutF_apply m c l s]
  match s with
  | 0 | 1 =>
    refine read_unit _ _ (woutF m l c) _ rfl _ _ fun a => ?_
    match a with
      | ⟨0, _⟩ => exact rfl
      | ⟨1, _⟩ => exact (Nat.zero_add _).symm
      | ⟨2, _⟩ => exact (Nat.zero_add _).symm

variable (P : (c : Dev nD) → Buf (Elt F) ((c : Thread nD τ).loc cc0_scratch0))

theorem rdComm_apply (l h : Fin 2) (s : Fin 3) (i : Fin 64) (j : Fin 512) :
    rdComm c l h s (landed P c) (ix4 0 0 i j)
      = (P (pr s c) : S64x1024.Idx → Elt F .bf16) (ix2 i ⟨512 * h.val + j.val, by omega⟩) := by
  show _ = landed P c (ix4 l s i ⟨512 * h.val + j.val, by omega⟩)
  match l, h, s with
  | 0, 0, 0 | 0, 0, 1 | 0, 0, 2 | 0, 1, 0 | 0, 1, 1 | 0, 1, 2
  | 1, 0, 0 | 1, 0, 1 | 1, 0, 2 | 1, 1, 0 | 1, 1, 1 | 1, 1, 2 =>
    refine read_unit _ _ (landed P c) _ rfl _ _ fun a => ?_
    match a with
      | ⟨0, _⟩ => exact rfl
      | ⟨1, _⟩ => exact rfl
      | ⟨2, _⟩ => exact (Nat.zero_add _).symm
      | ⟨3, _⟩ => exact rfl

/-- Row `i` of device `c`'s block of rows, among all rows. -/
def row (i : Fin 16) : Fin 64 := ⟨16 * c.val + i.val, by have h : c.val < 4 := c.2; omega⟩

theorem rdRows_apply (s : Fin 3) (i : Fin 16) (j : Fin 1024) :
    rdRows c s (landedRows P c) (ix3 0 i j) = (P (pr s c) : S64x1024.Idx → Elt F .bf16) (ix2 (row c i) j) := by
  show _ = landedRows P c (ix3 s i j)
  match s with
  | 0 | 1 | 2 =>
    refine read_unit _ _ (landedRows P c) _ rfl _ _ fun a => ?_
    match a with
      | ⟨0, _⟩ => exact rfl
      | ⟨1, _⟩ => exact (Nat.zero_add _).symm
      | ⟨2, _⟩ => exact (Nat.zero_add _).symm

theorem own_off : k0_off5 c = ![16 * c.val, 0] := by revert c; decide

theorem rdOwn_apply (i : Fin 16) (j : Fin 1024) :
    rdOwn c (P c) (ix2 i j) = (P c : S64x1024.Idx → Elt F .bf16) (ix2 (row c i) j) := by
  refine read_unit _ _ (P c) _ rfl _ _ fun a => ?_
  match a with
    | ⟨0, _⟩ => exact congrArg (· + i.val) (congrFun (own_off c) 0).symm
    | ⟨1, _⟩ => exact (Nat.zero_add _).symm.trans (congrArg (· + j.val) (congrFun (own_off c) 1).symm)

end Reads

/-! ## The payloads, at an index -/

/-- The first layer's product comes in four chunks of 256; together they are one product over 1024. -/
theorem first_apply (x : Vec Ideal S64x1024 .f32) (p : Fin 4 → Vec Ideal S1x256x2048 .f32) (w : Mat 1024 2048)
    (hp : ∀ k i j, p k (ix3 0 i j) = w (ix2 ⟨256 * k.val + i.val, by omega⟩ j)) (i : Fin 64) (j : Fin 2048) :
    k0_pay6 (k0_pay3 (k0_pay1 x) (k0_pay2 x (p 0)) (p 1) (p 2)) (k0_pay4 (k0_pay1 x)) (k0_pay5 (p 3)) zW (ix2 i j)
      = ∑ d : Fin 1024, x (ix2 i d) * w (ix2 d j) := by
  rw [sum_four (n := 256) rfl, Fin.sum_univ_four]
  pointwise [k0_pay6, k0_pay3, k0_pay1, k0_pay2, k0_pay4, k0_pay5, zW, hp]

/-- In the other layers it is one product. -/
theorem next_apply (x : FVec Ideal S64x1024 .bf16) (w : Vec Ideal S1x1024x2048 .f32) (i : Fin 64) (j : Fin 2048) :
    k0_pay17 x w (ix2 i j) = ∑ d : Fin 1024, x (ix2 i d) * w (ix3 0 d j) := by
  pointwise [k0_pay17]

/-- The two halves of a partial product, unrounded and rounded alike: -/
theorem left_apply (h : FVec Ideal S64x2048 .f32) (w : Vec Ideal S1x2048x1024 .f32) (i : Fin 64) (j : Fin 512) :
    k0_pay9 h w (ix2 i j) = ∑ k : Fin 2048, max (h (ix2 i k)) 0 * w (ix3 0 k ⟨512 * 0 + j.val, by omega⟩) := by
  pointwise [k0_pay9, k0_pay7, k0_pay8]
theorem right_apply (h : FVec Ideal S64x2048 .f32) (w : Vec Ideal S1x2048x1024 .f32) (i : Fin 64) (j : Fin 512) :
    k0_pay11 (k0_pay7 h) (k0_pay8 w) (ix2 i j)
      = ∑ k : Fin 2048, max (h (ix2 i k)) 0 * w (ix3 0 k ⟨512 * 1 + j.val, by omega⟩) := by
  pointwise [k0_pay11, k0_pay7, k0_pay8]
/-- (in the last layer the kernel names their parts otherwise) -/
theorem left_last_apply (h : FVec Ideal S64x2048 .f32) (w : Vec Ideal S1x2048x1024 .f32) (i : Fin 64) (j : Fin 512) :
    k0_pay31 (k0_pay28 h) (k0_pay30 w) zH (ix2 i j) = k0_pay9 h w (ix2 i j) := by
  rw [left_apply]
  pointwise [k0_pay31, k0_pay28, k0_pay30, k0_pay29, zH]
theorem right_last_apply (h : FVec Ideal S64x2048 .f32) (w : Vec Ideal S1x2048x1024 .f32) (i : Fin 64) (j : Fin 512) :
    k0_pay32 (k0_pay28 h) (k0_pay29 w) (ix2 i j) = k0_pay11 (k0_pay7 h) (k0_pay8 w) (ix2 i j) := by
  rw [right_apply]
  pointwise [k0_pay32, k0_pay28, k0_pay29]

/-- side by side, they are the whole product. -/
theorem halves_apply (c : Dev nD) (p q : FVec Ideal S64x512 .bf16) (g : Fin 64 → Fin 1024 → EReal)
    (hp : ∀ i j, p (ix2 i j) = g i ⟨512 * 0 + j.val, by omega⟩)
    (hq : ∀ i j, q (ix2 i j) = g i ⟨512 * 1 + j.val, by omega⟩) (i : Fin 64) (j : Fin 1024) :
    (halves c p q : Mat 64 1024) (ix2 i j) = g i j := by
  by_cases h : j.val < 512
  · refine (dif_pos h).trans ((hp i ⟨j.val, h⟩).trans (congrArg (g i) (Fin.ext ?_)))
    show 512 * 0 + j.val = j.val
    omega
  · refine (dif_neg h).trans ((hq i ⟨j.val - 512, _⟩).trans (congrArg (g i) (Fin.ext ?_)))
    show 512 * 1 + (j.val - 512) = j.val
    omega

/-- The next activations: the device's own halves and what it was sent, added up and put side by side. -/
theorem mix_apply (a b : FVec Ideal S64x512 .f32) (r : Fin 2 → Fin 3 → Vec Ideal S1x1x64x512 .bf16)
    (g : Fin 4 → Fin 64 → Fin 1024 → EReal)
    (ha : ∀ i j, a (ix2 i j) = g 3 i ⟨512 * 0 + j.val, by omega⟩)
    (hb : ∀ i j, b (ix2 i j) = g 3 i ⟨512 * 1 + j.val, by omega⟩)
    (hr : ∀ h (s : Fin 3) i j, r h s (ix4 0 0 i j) = g s.castSucc i ⟨512 * h.val + j.val, by omega⟩)
    (i : Fin 64) (j : Fin 1024) :
    k0_pay16 b (k0_pay15 (k0_pay13 a (r 0 0) (r 0 1)) (k0_pay14 (r 0 2))) (r 1 0) (r 1 1) (r 1 2) (ix2 i j)
      = g 3 i j + g 0 i j + g 1 i j + g 2 i j := by
  pointwise [k0_pay16, k0_pay15, k0_pay13, k0_pay14, hr, ha, hb]
  split
  · rfl
  · have e : (⟨512 + (j.val - 512), by omega⟩ : Fin 1024) = j := Fin.ext (by show 512 + (j.val - 512) = j.val; omega)
    rw [e]
    rfl

/-- The last payload adds four row blocks. -/
theorem last_apply (a : Vec Ideal S16x1024 .bf16) (r : Fin 3 → Vec Ideal S1x16x1024 .bf16) (i : Fin 16) (j : Fin 1024) :
    k0_pay35 (k0_pay33 a (r 0)) (k0_pay34 (r 1)) (r 2) (ix2 i j)
      = a (ix2 i j) + r 0 (ix3 0 i j) + r 1 (ix3 0 i j) + r 2 (ix3 0 i j) := by
  pointwise [k0_pay35, k0_pay33, k0_pay34]

end Cert.KernelIdeal.Mlp
-- ==== Proof.Values.lean ====
/-
# The values of the run, as mathematics

From the values of one run (`Vals`) and the reading of a layer (`Layer`): when every device starts with the same `x` and
with its own block of the weights, the partial product a device computes in each layer is its share of that layer, the
activations after a layer are the same on every device, and the rows a device ends with are its block of the last layer.
-/
module

public import proofs.«01_k».proof.Proof.Layer

@[expose] public section

set_option maxRecDepth 16384

noncomputable section

namespace Cert.KernelIdeal.Mlp

open Cert.KernelIdeal Cert.KernelIdeal.Gen
open Idealize.ShloMosaic Idealize.ShloMosaic.TcCoe

variable (m : (ℓ : Loc nD τ sig) → Buf (Elt Ideal) ℓ) (X : Mat 64 1024)
  (W : Fin 3 → Mat 1024 8192) (V : Fin 3 → Mat 8192 1024)

/-- The arguments are laid out as the claim says: `x` whole on every device, each weight matrix cut into blocks. -/
structure Laid : Prop where
  x : ∀ c, (xst m c : Mat 64 1024) = X
  w : ∀ l c i j, (win m l c : Mat 1024 2048) (ix2 i j) = W l (ix2 i (col c j))
  v : ∀ l c i j, (wout m l c : Mat 2048 1024) (ix2 i j) = V l (ix2 (col c i) j)

/-- The activations before each layer. -/
def acts : Fin 3 → Mat 64 1024
  | 0 => X
  | 1 => layer X (W 0) (V 0)
  | 2 => layer (layer X (W 0) (V 0)) (W 1) (V 1)

/-- The result. -/
def result : Mat 64 1024 := layer (acts X W V 2) (W 2) (V 2)

variable {m X W V}

/-- What a device computes of a layer from its own block. -/
theorem own_share (H : Laid m X W V) (l : Fin 3) (s : Fin 2) (c : Dev nD) (h : FVec Ideal S64x2048 .f32)
    (hh : ∀ i k, h (ix2 i k) = pre (acts X W V l) (W l) i (col c k)) :
    (∀ i (j : Fin 512), k0_pay9 h (rdWout c s (woutF m l c)) (ix2 i j)
      = share (acts X W V l) (W l) (V l) c i ⟨512 * 0 + j.val, by omega⟩)
    ∧ ∀ i (j : Fin 512), k0_pay11 (k0_pay7 h) (k0_pay8 (rdWout c s (woutF m l c))) (ix2 i j)
      = share (acts X W V l) (W l) (V l) c i ⟨512 * 1 + j.val, by omega⟩ := by
  constructor
  · intro i j
    rw [left_apply]
    refine Finset.sum_congr rfl fun k _ => ?_
    rw [hh, rdWout_apply, H.v]
    rfl
  · intro i j
    rw [right_apply]
    refine Finset.sum_congr rfl fun k _ => ?_
    rw [hh, rdWout_apply, H.v]
    rfl

/-- The activations after a layer, from the four shares. -/
theorem next_acts (H : Laid m X W V) (l : Fin 3) (t : Fin 2) (c : Dev nD) (a b : FVec Ideal S64x512 .f32)
    (P : (c : Dev nD) → Buf (Elt Ideal) ((c : Thread nD τ).loc cc0_scratch0))
    (hP : ∀ c i j, (P c : Mat 64 1024) (ix2 i j) = share (acts X W V l) (W l) (V l) c i j)
    (ha : ∀ i j, a (ix2 i j) = share (acts X W V l) (W l) (V l) c i ⟨512 * 0 + j.val, by omega⟩)
    (hb : ∀ i j, b (ix2 i j) = share (acts X W V l) (W l) (V l) c i ⟨512 * 1 + j.val, by omega⟩)
    (i : Fin 64) (j : Fin 1024) :
    k0_pay16 b (k0_pay15 (k0_pay13 a (rdComm c t 0 0 (landed P c)) (rdComm c t 0 1 (landed P c)))
      (k0_pay14 (rdComm c t 0 2 (landed P c)))) (rdComm c t 1 0 (landed P c)) (rdComm c t 1 1 (landed P c))
      (rdComm c t 1 2 (landed P c)) (ix2 i j)
      = layer (acts X W V l) (W l) (V l) (ix2 i j) := by
  have e := mix_apply a b (fun h s => rdComm c t h s (landed P c))
    (fun s => share (acts X W V l) (W l) (V l) (![pr 0 c, pr 1 c, pr 2 c, c] s)) ha hb
    (fun h s i j => by
      rw [rdComm_apply]
      refine (hP _ _ _).trans ?_
      match s with
      | 0 | 1 | 2 => rfl) i j
  refine e.trans ?_
  rw [layer_eq, ← sum_partners (fun d => share (acts X W V l) (W l) (V l) d i j) c]
  rfl

/-! ## Layer 0 -/

theorem hid0_eq (H : Laid m X W V) (c : Dev nD) (i : Fin 64) (k : Fin 2048) :
    hid0 m c (ix2 i k) = pre (acts X W V 0) (W 0) i (col c k) := by
  refine (first_apply (rdX c (xst m c)) (fun k => rdPiece c k (winF m 0 c)) (win m 0 c)
    (fun k i j => rdPiece_apply m c 0 k i j) i k).trans ?_
  refine Finset.sum_congr rfl fun d _ => ?_
  rw [rdX_apply, H.w, H.x]
  rfl

theorem part0_eq (H : Laid m X W V) (c : Dev nD) (i : Fin 64) (j : Fin 1024) :
    (part0 m c : Mat 64 1024) (ix2 i j) = share (acts X W V 0) (W 0) (V 0) c i j := by
  have e := own_share H 0 0 c (hid0 m c) (hid0_eq H c)
  refine halves_apply c _ _ _ (fun i j => ?_) (fun i j => ?_) i j
  · rw [← e.1]; pointwise [k0_pay10]
  · rw [← e.2]; pointwise [k0_pay12]; rfl

theorem x1_eq (H : Laid m X W V) (c : Dev nD) (i : Fin 64) (j : Fin 1024) :
    x1 m c (ix2 i j) = acts X W V 1 (ix2 i j) :=
  have e := own_share H 0 0 c (hid0 m c) (hid0_eq H c)
  next_acts H 0 0 c (own0a m c) (own0b m c) (part0 m) (part0_eq H) e.1 e.2 i j

/-! ## Layer 1 -/

theorem hid1_eq (H : Laid m X W V) (c : Dev nD) (i : Fin 64) (k : Fin 2048) :
    hid1 m c (ix2 i k) = pre (acts X W V 1) (W 1) i (col c k) := by
  refine (next_apply (x1 m c) (rdWin c 1 (winF m 1 c)) i k).trans ?_
  refine Finset.sum_congr rfl fun d _ => ?_
  rw [x1_eq H, rdWin_apply, H.w]

theorem part1_eq (H : Laid m X W V) (c : Dev nD) (i : Fin 64) (j : Fin 1024) :
    (part1 m c : Mat 64 1024) (ix2 i j) = share (acts X W V 1) (W 1) (V 1) c i j := by
  have e := own_share H 1 1 c (hid1 m c) (hid1_eq H c)
  refine halves_apply c _ _ _ (fun i j => ?_) (fun i j => ?_) i j
  · rw [← e.1]; pointwise [k0_pay21]; rfl
  · rw [← e.2]; pointwise [k0_pay23]; rfl

theorem x2_eq (H : Laid m X W V) (c : Dev nD) (i : Fin 64) (j : Fin 1024) :
    x2 m c (ix2 i j) = acts X W V 2 (ix2 i j) :=
  have e := own_share H 1 1 c (hid1 m c) (hid1_eq H c)
  next_acts H 1 1 c (own1a m c) (own1b m c) (part1 m) (part1_eq H) e.1 e.2 i j

/-! ## Layer 2 -/

theorem hid2_eq (H : Laid m X W V) (c : Dev nD) (i : Fin 64) (k : Fin 2048) :
    hid2 m c (ix2 i k) = pre (acts X W V 2) (W 2) i (col c k) := by
  refine (next_apply (x2 m c) (rdWin c 0 (winF m 2 c)) i k).trans ?_
  refine Finset.sum_congr rfl fun d _ => ?_
  rw [x2_eq H, rdWin_apply, H.w]

theorem part2_eq (H : Laid m X W V) (c : Dev nD) (i : Fin 64) (j : Fin 1024) :
    (part2 m c : Mat 64 1024) (ix2 i j) = share (acts X W V 2) (W 2) (V 2) c i j := by
  have e := own_share H 2 0 c (hid2 m c) (hid2_eq H c)
  refine halves_apply c _ _ _ (fun i j => ?_) (fun i j => ?_) i j
  · rw [← e.1]; exact left_last_apply (hid2 m c) (rdWout c 0 (woutF m 2 c)) i j
  · rw [← e.2]; exact right_last_apply (hid2 m c) (rdWout c 0 (woutF m 2 c)) i j

/-- The rows a device ends with are its block of the result. -/
theorem out_eq (H : Laid m X W V) (c : Dev nD) (i : Fin 16) (j : Fin 1024) :
    (out m c : Mat 16 1024) (ix2 i j) = result X W V (ix2 (row c i) j) := by
  refine (last_apply (rdOwn c (part2 m c)) (fun s => got2 m c s) i j).trans ?_
  have e (s : Fin 3) : got2 m c s (ix3 0 i j) = share (acts X W V 2) (W 2) (V 2) (pr s c) (row c i) j :=
    (rdRows_apply c (part2 m) s i j).trans (part2_eq H _ _ _)
  have o : rdOwn c (part2 m c) (ix2 i j) = share (acts X W V 2) (W 2) (V 2) c (row c i) j :=
    (rdOwn_apply c (part2 m) i j).trans (part2_eq H _ _ _)
  rw [e, e, e, o]
  unfold result
  rw [layer_eq, ← sum_partners (fun d => share (acts X W V 2) (W 2) (V 2) d (row c i) j) c]

end Cert.KernelIdeal.Mlp
-- ==== Proof.Algebra.lean ====
/-
# The kernel's result is the reference's

The reference computes three layers of whole matrices; its composed term is `result` of its own arguments. From
arguments that are blocks of the reference's, the rows a device ends with are its block of that.
-/
module

public import proofs.«01_k».proof.Proof.Values
public import proofs.«01_k».proof.Proof.Run
public import proofs.«01_k».proof.Proof.Gen.ReferenceIdeal.Run

@[expose] public section

set_option maxRecDepth 16384

noncomputable section

namespace Cert.KernelIdeal.Mlp

open Cert.KernelIdeal Cert.KernelIdeal.Gen
open Idealize.ShloMosaic Idealize.ShloMosaic.TcCoe

/-! ## The reference -/

section Reference
open Cert.ReferenceIdeal

/-- One layer, in the reference's operations. -/
theorem reference_layer (X : Mat 64 1024) (W : Mat 1024 8192) (V : Mat 8192 1024) :
    (Host.dotGeneral (F := Ideal) (φ₁ := .f32) (φ₂ := .f32) dot_S64x8192_S8192x1024_S64x1024_1_0_0_1_n_n none
      (maximumf (F := Ideal) (φ := .f32)
        (Host.dotGeneral (F := Ideal) (φ₁ := .f32) (φ₂ := .f32) dot_S64x1024_S1024x8192_S64x8192_1_0_0_1_n_n none X W)
        (broadcastInDim S64x8192 ![] Cert.ReferenceIdeal.Gen.facts.bcast_S_S64x8192 (constant (F := Ideal) S_ .f32 0x00000000#32))) V : Mat 64 1024)
      = layer X W V := by
  funext i
  idx_vars i
  pointwise [layer, term, pre]

variable (m' : (ℓ : Loc Cert.ReferenceIdeal.nD Cert.ReferenceIdeal.τ Cert.ReferenceIdeal.sig) → Buf (Elt Ideal) ℓ)

/-- The reference's `x`, -/
def refX : Mat 64 1024 := m' ((0 : Dev Cert.ReferenceIdeal.nD).tc.loc Cert.ReferenceIdeal.main_arg0)
/-- its first weight matrices, -/
def refW (l : Fin 3) : Mat 1024 8192 :=
  match l with
  | 0 => m' ((0 : Dev Cert.ReferenceIdeal.nD).tc.loc Cert.ReferenceIdeal.main_arg1)
  | 1 => m' ((0 : Dev Cert.ReferenceIdeal.nD).tc.loc Cert.ReferenceIdeal.main_arg3)
  | 2 => m' ((0 : Dev Cert.ReferenceIdeal.nD).tc.loc Cert.ReferenceIdeal.main_arg5)
/-- its second, -/
def refV (l : Fin 3) : Mat 8192 1024 :=
  match l with
  | 0 => m' ((0 : Dev Cert.ReferenceIdeal.nD).tc.loc Cert.ReferenceIdeal.main_arg2)
  | 1 => m' ((0 : Dev Cert.ReferenceIdeal.nD).tc.loc Cert.ReferenceIdeal.main_arg4)
  | 2 => m' ((0 : Dev Cert.ReferenceIdeal.nD).tc.loc Cert.ReferenceIdeal.main_arg6)
/-- and its result. -/
def whole : Mat 64 1024 := result (refX m') (refW m') (refV m')

/-- A layer in the reference's operations, named. -/
def hostLayer (X : Mat 64 1024) (W : Mat 1024 8192) (V : Mat 8192 1024) : Mat 64 1024 :=
  Host.dotGeneral (F := Ideal) (φ₁ := .f32) (φ₂ := .f32) dot_S64x8192_S8192x1024_S64x1024_1_0_0_1_n_n none
    (maximumf (F := Ideal) (φ := .f32)
      (Host.dotGeneral (F := Ideal) (φ₁ := .f32) (φ₂ := .f32) dot_S64x1024_S1024x8192_S64x8192_1_0_0_1_n_n none X W)
      (broadcastInDim S64x8192 ![] Cert.ReferenceIdeal.Gen.facts.bcast_S_S64x8192 (constant (F := Ideal) S_ .f32 0x00000000#32))) V

theorem reference_eq :
    hostLayer (hostLayer (hostLayer (refX m') (refW m' 0) (refV m' 0)) (refW m' 1) (refV m' 1)) (refW m' 2) (refV m' 2)
      = whole m' := by
  have e (X W V) : hostLayer X W V = layer X W V := reference_layer X W V
  rw [e, e, e]
  rfl

end Reference

/-! ## The layout -/

variable (m : (ℓ : Loc nD τ sig) → Buf (Elt Ideal) ℓ)
  (m' : (ℓ : Loc Cert.ReferenceIdeal.nD Cert.ReferenceIdeal.τ Cert.ReferenceIdeal.sig) → Buf (Elt Ideal) ℓ)

theorem block_cols (c : Fin 4) (v : Mat 1024 8192) (h : Layout.Tiles ⟨2, ![1024, 2048]⟩ ⟨2, ![1024, 8192]⟩ 1 4)
    (i : Fin 1024) (j : Fin 2048) :
    Layout.block ⟨2, ![1024, 2048]⟩ ⟨2, ![1024, 8192]⟩ 1 4 c v h (ix2 i j) = v (ix2 i (col c j)) := by
  rw [Layout.block_apply]
  refine congrArg v (funext fun a => Fin.ext ?_)
  rw [Layout.Tiles.idx_val]
  match a with
  | ⟨0, _⟩ => rfl
  | ⟨1, _⟩ => show c.val * 2048 + j.val = 2048 * c.val + j.val; omega

theorem block_rows (c : Fin 4) (v : Mat 8192 1024) (h : Layout.Tiles ⟨2, ![2048, 1024]⟩ ⟨2, ![8192, 1024]⟩ 0 4)
    (i : Fin 2048) (j : Fin 1024) :
    Layout.block ⟨2, ![2048, 1024]⟩ ⟨2, ![8192, 1024]⟩ 0 4 c v h (ix2 i j) = v (ix2 (col c i) j) := by
  rw [Layout.block_apply]
  refine congrArg v (funext fun a => Fin.ext ?_)
  rw [Layout.Tiles.idx_val]
  match a with
  | ⟨0, _⟩ => show c.val * 2048 + i.val = 2048 * c.val + i.val; omega
  | ⟨1, _⟩ => rfl

/-- What the claim says of the arguments is the layout that the values of the run assume. -/
theorem laid
    (hm : ∀ c : Dev nD,
      m (c.tc.loc main_arg0) = refX m'
      ∧ m (c.tc.loc main_arg1) = Layout.block ⟨2, ![1024, 2048]⟩ ⟨2, ![1024, 8192]⟩ 1 4 c (refW m' 0)
      ∧ m (c.tc.loc main_arg2) = Layout.block ⟨2, ![2048, 1024]⟩ ⟨2, ![8192, 1024]⟩ 0 4 c (refV m' 0)
      ∧ m (c.tc.loc main_arg3) = Layout.block ⟨2, ![1024, 2048]⟩ ⟨2, ![1024, 8192]⟩ 1 4 c (refW m' 1)
      ∧ m (c.tc.loc main_arg4) = Layout.block ⟨2, ![2048, 1024]⟩ ⟨2, ![8192, 1024]⟩ 0 4 c (refV m' 1)
      ∧ m (c.tc.loc main_arg5) = Layout.block ⟨2, ![1024, 2048]⟩ ⟨2, ![1024, 8192]⟩ 1 4 c (refW m' 2)
      ∧ m (c.tc.loc main_arg6) = Layout.block ⟨2, ![2048, 1024]⟩ ⟨2, ![8192, 1024]⟩ 0 4 c (refV m' 2)) :
    Laid m (refX m') (refW m') (refV m') where
  x c := (xst_eq m c).trans (hm c).1
  w l c i j := by
    obtain ⟨_, h0, _, h1, _, h2, _⟩ := hm c
    match l with
    | 0 => exact (congrFun h0 (ix2 i j)).trans (block_cols c (refW m' 0) _ i j)
    | 1 => exact (congrFun h1 (ix2 i j)).trans (block_cols c (refW m' 1) _ i j)
    | 2 => exact (congrFun h2 (ix2 i j)).trans (block_cols c (refW m' 2) _ i j)
  v l c i j := by
    obtain ⟨_, _, h0, _, h1, _, h2⟩ := hm c
    match l with
    | 0 => exact (congrFun h0 (ix2 i j)).trans (block_rows c (refV m' 0) _ i j)
    | 1 => exact (congrFun h1 (ix2 i j)).trans (block_rows c (refV m' 1) _ i j)
    | 2 => exact (congrFun h2 (ix2 i j)).trans (block_rows c (refV m' 2) _ i j)

variable {m m'}

/-- The rows a device ends with are its block of the reference's result. -/
theorem out_block (H : Laid m (refX m') (refW m') (refV m')) (c : Dev nD) :
    (out m c : Mat 16 1024) = Layout.block ⟨2, ![16, 1024]⟩ ⟨2, ![64, 1024]⟩ 0 4 c (whole m') := by
  funext i
  obtain ⟨i, j, rfl⟩ : ∃ (a : Fin 16) (b : Fin 1024), i = ix2 a b := ⟨i 0, i 1, eq_ix2 i⟩
  rw [out_eq H, Layout.block_apply]
  refine congrArg (whole m') (funext fun a => Fin.ext ?_)
  rw [Layout.Tiles.idx_val]
  match a with
  | ⟨0, _⟩ => show 16 * c.val + i.val = c.val * 16 + i.val; omega
  | ⟨1, _⟩ => rfl

end Cert.KernelIdeal.Mlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel as printed is the same text as the idealized kernel, -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun x => ?_)
  fin_cases l
  obtain ⟨t, s⟩ := x
  show @Cert.Kernel.cc0_body Bits _ Cert.Kernel.Gen.facts _ _ _ _ _ _ _ _ _ _ _ _ _ _ _ _ _ _ _ _ _ _ _ _ _ _ _ _ _ _
    = @Cert.KernelIdeal.cc0_body Bits _ Cert.KernelIdeal.Gen.facts _ _ _ _ _ _ _ _ _ _ _ _ _ _ _ _ _ _ _ _ _ _ _ _ _ _ _ _ _ _
  rfl

theorem defs_eq : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_eq

/-- so the one run, at bit patterns, is its run too. -/
theorem frame_kernel : Cert.quiescent_Kernel (hKernel := Cert.Kernel.Gen.facts) := by
  intro m ρ _
  rw [defs_eq]
  exact (θ_run Cert.KernelIdeal.defs _ _).mono (fun _ h => (⟨fun c => (h.1 c).2, h.2⟩ : (∀ c, Cert.KernelIdeal.Mlp.Same m _ c) ∧ _))
    (Cert.KernelIdeal.Mlp.run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Mlp.run_main (F := Ideal) m ρ)

/-- The reference has no semaphore at all. -/
theorem frame_reference : Cert.quiescent_ReferenceIdeal (hReferenceIdeal := Cert.ReferenceIdeal.Gen.facts) := fun m ρ _ =>
  (θ_run Cert.ReferenceIdeal.defs _ _).mono (fun _ h => ⟨fun c => (h c).2, funext fun g => by
    obtain ⟨_, s | s⟩ := g <;> exact s.elim0⟩) (Cert.ReferenceIdeal.Value.run (F := Ideal) m ρ)

/-- From arguments laid out as the claim says, every device ends with its block of rows of what the reference computes. -/
theorem algebraic : Cert.algebraic_KernelIdeal_ReferenceIdeal (hKernelIdeal := Cert.KernelIdeal.Gen.facts)
    (hReferenceIdeal := Cert.ReferenceIdeal.Gen.facts) := by
  intro m g m' g' _ hm
  have H := Cert.KernelIdeal.Mlp.laid m m' hm
  refine ⟨Cert.KernelIdeal.Mlp.whole m', ?_, ?_⟩
  · exact (θ_run Cert.KernelIdeal.defs _ _).mono
      (fun _ h c => ⟨(h.1 c).1.trans (Cert.KernelIdeal.Mlp.out_block H c), (h.1 c).2⟩)
      (Cert.KernelIdeal.Mlp.run_main (F := Ideal) m g)
  · exact (θ_run Cert.ReferenceIdeal.defs _ _).mono
      (fun _ h => ⟨(h 0).1.trans (Cert.KernelIdeal.Mlp.reference_eq m'), (h 0).2⟩)
      (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
